-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x25 : Shape := ⟨2, ![100000, 25]⟩
abbrev S2x3200000 : Shape := ⟨2, ![2, 3200000]⟩
abbrev S25x40 : Shape := ⟨2, ![25, 40]⟩
abbrev S4x10 : Shape := ⟨2, ![4, 10]⟩
abbrev S40 : Shape := ⟨1, ![40]⟩
abbrev S40x100 : Shape := ⟨2, ![40, 100]⟩
abbrev S4x25 : Shape := ⟨2, ![4, 25]⟩
abbrev S100 : Shape := ⟨1, ![100]⟩
abbrev S100x50 : Shape := ⟨2, ![100, 50]⟩
abbrev S1x50 : Shape := ⟨2, ![1, 50]⟩
abbrev S50 : Shape := ⟨1, ![50]⟩
abbrev S50x93 : Shape := ⟨2, ![50, 93]⟩
abbrev S93 : Shape := ⟨1, ![93]⟩
abbrev S1x3200000 : Shape := ⟨2, ![1, 3200000]⟩
abbrev S3200000 : Shape := ⟨1, ![3200000]⟩
abbrev S100000x40 : Shape := ⟨2, ![100000, 40]⟩
abbrev S100000x4x10 : Shape := ⟨3, ![100000, 4, 10]⟩
abbrev S1x4x10 : Shape := ⟨3, ![1, 4, 10]⟩
abbrev S_ : Shape := ⟨0, ![]⟩
abbrev S100000x4 : Shape := ⟨2, ![100000, 4]⟩
abbrev S3200000x1 : Shape := ⟨2, ![3200000, 1]⟩
abbrev S3200000x4 : Shape := ⟨2, ![3200000, 4]⟩
abbrev S100000x4x1 : Shape := ⟨3, ![100000, 4, 1]⟩
abbrev S1 : Shape := ⟨1, ![1]⟩
abbrev S1x1x1 : Shape := ⟨3, ![1, 1, 1]⟩
abbrev S3200000x4x10 : Shape := ⟨3, ![3200000, 4, 10]⟩
abbrev S3200000x4x1 : Shape := ⟨3, ![3200000, 4, 1]⟩
abbrev S100000x100 : Shape := ⟨2, ![100000, 100]⟩
abbrev S100000x4x25 : Shape := ⟨3, ![100000, 4, 25]⟩
abbrev S1x4x25 : Shape := ⟨3, ![1, 4, 25]⟩
abbrev S3200000x4x25 : Shape := ⟨3, ![3200000, 4, 25]⟩
abbrev S100000x50 : Shape := ⟨2, ![100000, 50]⟩
abbrev S100000x1x50 : Shape := ⟨3, ![100000, 1, 50]⟩
abbrev S1x1x50 : Shape := ⟨3, ![1, 1, 50]⟩
abbrev S100000x1 : Shape := ⟨2, ![100000, 1]⟩
abbrev S1x1 : Shape := ⟨2, ![1, 1]⟩
abbrev S100000 : Shape := ⟨1, ![100000]⟩
abbrev S3200000x1x50 : Shape := ⟨3, ![3200000, 1, 50]⟩
abbrev S3200000x1x1 : Shape := ⟨3, ![3200000, 1, 1]⟩
abbrev S50x128 : Shape := ⟨2, ![50, 128]⟩
abbrev S1x128 : Shape := ⟨2, ![1, 128]⟩
abbrev S2 : Shape := ⟨1, ![2]⟩
abbrev S100000x128 : Shape := ⟨2, ![100000, 128]⟩
abbrev S1000x50 : Shape := ⟨2, ![1000, 50]⟩
abbrev S1000x128 : Shape := ⟨2, ![1000, 128]⟩
abbrev S100000x93 : Shape := ⟨2, ![100000, 93]⟩

abbrev nBuf : Space → Nat
  | .hbm => 434
  | .vmem => 6
  | .smem => 0
  | _ => 0

abbrev hbmTy0_0 (i : Nat) : BufTy := match i % 128 with
  | 0 => ⟨S100000x25, .f32⟩
  | 1 => ⟨S2x3200000, .i32⟩
  | 2 => ⟨S25x40, .f32⟩
  | 3 => ⟨S4x10, .f32⟩
  | 4 => ⟨S4x10, .f32⟩
  | 5 => ⟨S40, .f32⟩
  | 6 => ⟨S40x100, .f32⟩
  | 7 => ⟨S4x25, .f32⟩
  | 8 => ⟨S4x25, .f32⟩
  | 9 => ⟨S100, .f32⟩
  | 10 => ⟨S100x50, .f32⟩
  | 11 => ⟨S1x50, .f32⟩
  | 12 => ⟨S1x50, .f32⟩
  | 13 => ⟨S50, .f32⟩
  | 14 => ⟨S50x93, .f32⟩
  | 15 => ⟨S93, .f32⟩
  | 16 => ⟨S1x3200000, .i32⟩
  | 17 => ⟨S3200000, .i32⟩
  | 18 => ⟨S1x3200000, .i32⟩
  | 19 => ⟨S3200000, .i32⟩
  | 20 => ⟨S100000x40, .f32⟩
  | 21 => ⟨S100000x4x10, .f32⟩
  | 22 => ⟨S1x4x10, .f32⟩
  | 23 => ⟨S100000x4x10, .f32⟩
  | 24 => ⟨S100000x4x10, .f32⟩
  | 25 => ⟨S_, .f32⟩
  | 26 => ⟨S100000x4, .f32⟩
  | 27 => ⟨S1x4x10, .f32⟩
  | 28 => ⟨S100000x4x10, .f32⟩
  | 29 => ⟨S100000x4x10, .f32⟩
  | 30 => ⟨S_, .f32⟩
  | 31 => ⟨S100000x4, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x4, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x4, .f32⟩
  | 50 => ⟨S3200000x4, .f32⟩
  | 51 => ⟨S_, .f32⟩
  | 52 => ⟨S_, .f32⟩
  | 53 => ⟨S3200000x4, .f32⟩
  | 54 => ⟨S3200000x4, .i1⟩
  | 55 => ⟨S_, .f32⟩
  | 56 => ⟨S3200000x4, .f32⟩
  | 57 => ⟨S3200000x4, .f32⟩
  | 58 => ⟨S3200000x4, .f32⟩
  | 59 => ⟨S3200000x4, .i32⟩
  | 60 => ⟨S3200000x4, .f32⟩
  | 61 => ⟨S3200000x4, .i32⟩
  | 62 => ⟨S3200000x4, .i32⟩
  | 63 => ⟨S3200000x4, .i32⟩
  | 64 => ⟨S3200000x4, .i32⟩
  | 65 => ⟨S_, .i32⟩
  | 66 => ⟨S100000x4, .i32⟩
  | 67 => ⟨S3200000x1, .i32⟩
  | 68 => ⟨S100000x4, .i32⟩
  | 69 => ⟨S3200000x4, .f32⟩
  | 70 => ⟨S_, .i32⟩
  | 71 => ⟨S100000x4, .i32⟩
  | 72 => ⟨S100000x4, .i32⟩
  | 73 => ⟨S_, .i32⟩
  | 74 => ⟨S100000x4, .i32⟩
  | 75 => ⟨S100000x4, .i1⟩
  | 76 => ⟨S_, .i32⟩
  | 77 => ⟨S100000x4, .i32⟩
  | 78 => ⟨S100000x4, .i32⟩
  | 79 => ⟨S100000x4, .i32⟩
  | 80 => ⟨S100000x4x1, .i32⟩
  | 81 => ⟨S1, .i32⟩
  | 82 => ⟨S_, .i32⟩
  | 83 => ⟨S100000x4x1, .i32⟩
  | 84 => ⟨S100000x4x1, .i1⟩
  | 85 => ⟨S1x1x1, .i32⟩
  | 86 => ⟨S100000x4x1, .i32⟩
  | 87 => ⟨S100000x4x1, .i1⟩
  | 88 => ⟨S100000x4x1, .i1⟩
  | 89 => ⟨S_, .i1⟩
  | 90 => ⟨S100000x4, .i1⟩
  | 91 => ⟨S100000x4, .f32⟩
  | 92 => ⟨S_, .f32⟩
  | 93 => ⟨S100000x4, .f32⟩
  | 94 => ⟨S100000x4, .f32⟩
  | 95 => ⟨S_, .i32⟩
  | 96 => ⟨S100000x4, .i32⟩
  | 97 => ⟨S100000x4, .i1⟩
  | 98 => ⟨S_, .f32⟩
  | 99 => ⟨S_, .f32⟩
  | 100 => ⟨S100000x4, .f32⟩
  | 101 => ⟨S100000x4, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x4, .f32⟩
  | 111 => ⟨S3200000x4, .f32⟩
  | 112 => ⟨S3200000x4, .f32⟩
  | 113 => ⟨S_, .f32⟩
  | 114 => ⟨S100000x4, .f32⟩
  | 115 => ⟨S3200000x1, .i32⟩
  | 116 => ⟨S100000x4, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000x4, .f32⟩
  | 126 => ⟨S_, .f32⟩
  | 127 => ⟨S3200000x4, .f32⟩
  | _ => ⟨S100000x25, .f32⟩

abbrev hbmTy0_1 (i : Nat) : BufTy := match i % 128 with
  | 0 => ⟨S3200000x4, .f32⟩
  | 1 => ⟨S3200000x4, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x4x10, .f32⟩
  | 11 => ⟨S3200000x4x1, .f32⟩
  | 12 => ⟨S3200000x4x10, .f32⟩
  | 13 => ⟨S3200000x4x10, .f32⟩
  | 14 => ⟨S_, .f32⟩
  | 15 => ⟨S100000x4x10, .f32⟩
  | 16 => ⟨S3200000x1, .i32⟩
  | 17 => ⟨S100000x4x10, .f32⟩
  | 18 => ⟨S1x4x10, .f32⟩
  | 19 => ⟨S100000x4x10, .f32⟩
  | 20 => ⟨S100000x4x10, .f32⟩
  | 21 => ⟨S_, .f32⟩
  | 22 => ⟨S100000x4x10, .f32⟩
  | 23 => ⟨S100000x4x10, .f32⟩
  | 24 => ⟨S100000x40, .f32⟩
  | 25 => ⟨S100000x100, .f32⟩
  | 26 => ⟨S100000x4x25, .f32⟩
  | 27 => ⟨S1x4x25, .f32⟩
  | 28 => ⟨S100000x4x25, .f32⟩
  | 29 => ⟨S100000x4x25, .f32⟩
  | 30 => ⟨S_, .f32⟩
  | 31 => ⟨S100000x4, .f32⟩
  | 32 => ⟨S1x4x25, .f32⟩
  | 33 => ⟨S100000x4x25, .f32⟩
  | 34 => ⟨S100000x4x25, .f32⟩
  | 35 => ⟨S_, .f32⟩
  | 36 => ⟨S100000x4, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x4, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x4, .f32⟩
  | 55 => ⟨S3200000x4, .f32⟩
  | 56 => ⟨S_, .f32⟩
  | 57 => ⟨S_, .f32⟩
  | 58 => ⟨S3200000x4, .f32⟩
  | 59 => ⟨S3200000x4, .i1⟩
  | 60 => ⟨S_, .f32⟩
  | 61 => ⟨S3200000x4, .f32⟩
  | 62 => ⟨S3200000x4, .f32⟩
  | 63 => ⟨S3200000x4, .f32⟩
  | 64 => ⟨S3200000x4, .i32⟩
  | 65 => ⟨S3200000x4, .f32⟩
  | 66 => ⟨S3200000x4, .i32⟩
  | 67 => ⟨S3200000x4, .i32⟩
  | 68 => ⟨S3200000x4, .i32⟩
  | 69 => ⟨S3200000x4, .i32⟩
  | 70 => ⟨S_, .i32⟩
  | 71 => ⟨S100000x4, .i32⟩
  | 72 => ⟨S3200000x1, .i32⟩
  | 73 => ⟨S100000x4, .i32⟩
  | 74 => ⟨S3200000x4, .f32⟩
  | 75 => ⟨S_, .i32⟩
  | 76 => ⟨S100000x4, .i32⟩
  | 77 => ⟨S100000x4, .i32⟩
  | 78 => ⟨S_, .i32⟩
  | 79 => ⟨S100000x4, .i32⟩
  | 80 => ⟨S100000x4, .i1⟩
  | 81 => ⟨S_, .i32⟩
  | 82 => ⟨S100000x4, .i32⟩
  | 83 => ⟨S100000x4, .i32⟩
  | 84 => ⟨S100000x4, .i32⟩
  | 85 => ⟨S100000x4x1, .i32⟩
  | 86 => ⟨S1, .i32⟩
  | 87 => ⟨S_, .i32⟩
  | 88 => ⟨S100000x4x1, .i32⟩
  | 89 => ⟨S100000x4x1, .i1⟩
  | 90 => ⟨S1x1x1, .i32⟩
  | 91 => ⟨S100000x4x1, .i32⟩
  | 92 => ⟨S100000x4x1, .i1⟩
  | 93 => ⟨S100000x4x1, .i1⟩
  | 94 => ⟨S_, .i1⟩
  | 95 => ⟨S100000x4, .i1⟩
  | 96 => ⟨S100000x4, .f32⟩
  | 97 => ⟨S_, .f32⟩
  | 98 => ⟨S100000x4, .f32⟩
  | 99 => ⟨S100000x4, .f32⟩
  | 100 => ⟨S_, .i32⟩
  | 101 => ⟨S100000x4, .i32⟩
  | 102 => ⟨S100000x4, .i1⟩
  | 103 => ⟨S_, .f32⟩
  | 104 => ⟨S_, .f32⟩
  | 105 => ⟨S100000x4, .f32⟩
  | 106 => ⟨S100000x4, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x4, .f32⟩
  | 116 => ⟨S3200000x4, .f32⟩
  | 117 => ⟨S3200000x4, .f32⟩
  | 118 => ⟨S_, .f32⟩
  | 119 => ⟨S100000x4, .f32⟩
  | 120 => ⟨S3200000x1, .i32⟩
  | 121 => ⟨S100000x4, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x25, .f32⟩

abbrev hbmTy0_2 (i : Nat) : BufTy := match i % 128 with
  | 0 => ⟨S3200000, .i32⟩
  | 1 => ⟨S3200000x1, .i32⟩
  | 2 => ⟨S3200000x4, .f32⟩
  | 3 => ⟨S_, .f32⟩
  | 4 => ⟨S3200000x4, .f32⟩
  | 5 => ⟨S3200000x4, .f32⟩
  | 6 => ⟨S3200000x4, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000x4x25, .f32⟩
  | 16 => ⟨S3200000x4x1, .f32⟩
  | 17 => ⟨S3200000x4x25, .f32⟩
  | 18 => ⟨S3200000x4x25, .f32⟩
  | 19 => ⟨S_, .f32⟩
  | 20 => ⟨S100000x4x25, .f32⟩
  | 21 => ⟨S3200000x1, .i32⟩
  | 22 => ⟨S100000x4x25, .f32⟩
  | 23 => ⟨S1x4x25, .f32⟩
  | 24 => ⟨S100000x4x25, .f32⟩
  | 25 => ⟨S100000x4x25, .f32⟩
  | 26 => ⟨S_, .f32⟩
  | 27 => ⟨S100000x4x25, .f32⟩
  | 28 => ⟨S100000x4x25, .f32⟩
  | 29 => ⟨S100000x100, .f32⟩
  | 30 => ⟨S100000x50, .f32⟩
  | 31 => ⟨S100000x1x50, .f32⟩
  | 32 => ⟨S1x1x50, .f32⟩
  | 33 => ⟨S100000x1x50, .f32⟩
  | 34 => ⟨S100000x1x50, .f32⟩
  | 35 => ⟨S_, .f32⟩
  | 36 => ⟨S100000x1, .f32⟩
  | 37 => ⟨S1x1x50, .f32⟩
  | 38 => ⟨S100000x1x50, .f32⟩
  | 39 => ⟨S100000x1x50, .f32⟩
  | 40 => ⟨S_, .f32⟩
  | 41 => ⟨S100000x1, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x1, .f32⟩
  | 60 => ⟨S3200000x1, .f32⟩
  | 61 => ⟨S_, .f32⟩
  | 62 => ⟨S_, .f32⟩
  | 63 => ⟨S3200000x1, .f32⟩
  | 64 => ⟨S3200000x1, .i1⟩
  | 65 => ⟨S_, .f32⟩
  | 66 => ⟨S3200000x1, .f32⟩
  | 67 => ⟨S3200000x1, .f32⟩
  | 68 => ⟨S3200000x1, .f32⟩
  | 69 => ⟨S3200000x1, .i32⟩
  | 70 => ⟨S3200000x1, .f32⟩
  | 71 => ⟨S3200000x1, .i32⟩
  | 72 => ⟨S3200000x1, .i32⟩
  | 73 => ⟨S3200000x1, .i32⟩
  | 74 => ⟨S3200000x1, .i32⟩
  | 75 => ⟨S_, .i32⟩
  | 76 => ⟨S100000x1, .i32⟩
  | 77 => ⟨S3200000x1, .i32⟩
  | 78 => ⟨S100000x1, .i32⟩
  | 79 => ⟨S3200000x1, .f32⟩
  | 80 => ⟨S_, .i32⟩
  | 81 => ⟨S100000x1, .i32⟩
  | 82 => ⟨S100000x1, .i32⟩
  | 83 => ⟨S_, .i32⟩
  | 84 => ⟨S100000x1, .i32⟩
  | 85 => ⟨S100000x1, .i1⟩
  | 86 => ⟨S_, .i32⟩
  | 87 => ⟨S100000x1, .i32⟩
  | 88 => ⟨S100000x1, .i32⟩
  | 89 => ⟨S100000x1, .i32⟩
  | 90 => ⟨S1, .i32⟩
  | 91 => ⟨S_, .i32⟩
  | 92 => ⟨S100000x1, .i32⟩
  | 93 => ⟨S100000x1, .i1⟩
  | 94 => ⟨S1x1, .i32⟩
  | 95 => ⟨S100000x1, .i32⟩
  | 96 => ⟨S100000x1, .i1⟩
  | 97 => ⟨S100000x1, .i1⟩
  | 98 => ⟨S_, .i1⟩
  | 99 => ⟨S100000, .i1⟩
  | 100 => ⟨S100000x1, .f32⟩
  | 101 => ⟨S100000x1, .i1⟩
  | 102 => ⟨S_, .f32⟩
  | 103 => ⟨S100000x1, .f32⟩
  | 104 => ⟨S100000x1, .f32⟩
  | 105 => ⟨S_, .i32⟩
  | 106 => ⟨S100000x1, .i32⟩
  | 107 => ⟨S100000x1, .i1⟩
  | 108 => ⟨S_, .f32⟩
  | 109 => ⟨S_, .f32⟩
  | 110 => ⟨S100000x1, .f32⟩
  | 111 => ⟨S100000x1, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x1, .f32⟩
  | 121 => ⟨S3200000x1, .f32⟩
  | 122 => ⟨S3200000x1, .f32⟩
  | 123 => ⟨S_, .f32⟩
  | 124 => ⟨S100000x1, .f32⟩
  | 125 => ⟨S3200000x1, .i32⟩
  | 126 => ⟨S100000x1, .f32⟩
  | 127 => ⟨S_, .i32⟩
  | _ => ⟨S100000x25, .f32⟩

abbrev hbmTy0_3 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000x1, .f32⟩
  | 8 => ⟨S_, .f32⟩
  | 9 => ⟨S3200000x1, .f32⟩
  | 10 => ⟨S3200000x1, .f32⟩
  | 11 => ⟨S3200000x1, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x1x50, .f32⟩
  | 21 => ⟨S3200000x1x1, .f32⟩
  | 22 => ⟨S3200000x1x50, .f32⟩
  | 23 => ⟨S3200000x1x50, .f32⟩
  | 24 => ⟨S_, .f32⟩
  | 25 => ⟨S100000x1x50, .f32⟩
  | 26 => ⟨S3200000x1, .i32⟩
  | 27 => ⟨S100000x1x50, .f32⟩
  | 28 => ⟨S1x1x50, .f32⟩
  | 29 => ⟨S100000x1x50, .f32⟩
  | 30 => ⟨S100000x1x50, .f32⟩
  | 31 => ⟨S_, .f32⟩
  | 32 => ⟨S100000x1x50, .f32⟩
  | 33 => ⟨S100000x1x50, .f32⟩
  | 34 => ⟨S100000x50, .f32⟩
  | 35 => ⟨S_, .f32⟩
  | 36 => ⟨S50x128, .f32⟩
  | 37 => ⟨S_, .i32⟩
  | 38 => ⟨S1, .i32⟩
  | 39 => ⟨S50x128, .f32⟩
  | 40 => ⟨S_, .f32⟩
  | 41 => ⟨S1x128, .f32⟩
  | 42 => ⟨S_, .i32⟩
  | 43 => ⟨S1, .i32⟩
  | 44 => ⟨S_, .i32⟩
  | 45 => ⟨S1, .i32⟩
  | 46 => ⟨S2, .i32⟩
  | 47 => ⟨S1x128, .f32⟩
  | 48 => ⟨S100000x128, .f32⟩
  | 49 => ⟨S100000x93, .f32⟩
  | _ => ⟨S100000x25, .f32⟩

abbrev hbmTy (i : Nat) : BufTy := match i / 128 with
  | 0 => hbmTy0_0 i
  | 1 => hbmTy0_1 i
  | 2 => hbmTy0_2 i
  | 3 => hbmTy0_3 i
  | _ => ⟨S100000x25, .f32⟩

abbrev bufTy : (tb : Table) → Fin (tcTables nBuf tb) → BufTy
  | .hbm, ⟨i, _⟩ => hbmTy i
  | .local _ .vmem, ⟨0, _⟩ => ⟨S1000x50, .f32⟩
  | .local _ .vmem, ⟨1, _⟩ => ⟨S1000x50, .f32⟩
  | .local _ .vmem, ⟨2, _⟩ => ⟨S50x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | _, _ => ⟨S100000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v29 : Ref sig .tc := ⟨.hbm, 58, rfl⟩
abbrev main_call1_v0 : Ref sig .tc := ⟨.hbm, 59, rfl⟩
abbrev main_call1_v1_0 : Ref sig .tc := ⟨.hbm, 60, rfl⟩
abbrev main_v30 : Ref sig .tc := ⟨.hbm, 61, rfl⟩
abbrev main_call2_v0 : Ref sig .tc := ⟨.hbm, 62, rfl⟩
abbrev main_call2_v1_0 : Ref sig .tc := ⟨.hbm, 63, rfl⟩
abbrev main_v31 : Ref sig .tc := ⟨.hbm, 64, rfl⟩
abbrev main_c_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_6 : Ref sig .tc := ⟨.hbm, 70, rfl⟩
abbrev main_v36 : Ref sig .tc := ⟨.hbm, 71, rfl⟩
abbrev main_v37 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v38 : Ref sig .tc := ⟨.hbm, 94, rfl⟩
abbrev main_c_7 : Ref sig .tc := ⟨.hbm, 95, rfl⟩
abbrev main_v39 : Ref sig .tc := ⟨.hbm, 96, rfl⟩
abbrev main_v40 : Ref sig .tc := ⟨.hbm, 97, rfl⟩
abbrev main_cst_8 : Ref sig .tc := ⟨.hbm, 98, rfl⟩
abbrev main_call5_v0 : Ref sig .tc := ⟨.hbm, 99, rfl⟩
abbrev main_call5_v1 : Ref sig .tc := ⟨.hbm, 100, rfl⟩
abbrev main_v41 : Ref sig .tc := ⟨.hbm, 101, rfl⟩
abbrev main_c_9 : Ref sig .tc := ⟨.hbm, 102, rfl⟩
abbrev main_v42 : Ref sig .tc := ⟨.hbm, 103, rfl⟩
abbrev main_v43 : Ref sig .tc := ⟨.hbm, 104, rfl⟩
abbrev main_c_10 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_cst_11 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_c_12 : Ref sig .tc := ⟨.hbm, 117, rfl⟩
abbrev main_v54 : Ref sig .tc := ⟨.hbm, 118, rfl⟩
abbrev main_v55 : Ref sig .tc := ⟨.hbm, 119, rfl⟩
abbrev main_c_13 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_14 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_c_15 : Ref sig .tc := ⟨.hbm, 130, rfl⟩
abbrev main_v64 : Ref sig .tc := ⟨.hbm, 131, rfl⟩
abbrev main_v65 : Ref sig .tc := ⟨.hbm, 132, rfl⟩
abbrev main_c_16 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_17 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_call6_cst : Ref sig .tc := ⟨.hbm, 149, rfl⟩
abbrev main_call6_v0 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_18 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_19 : Ref sig .tc := ⟨.hbm, 163, rfl⟩
abbrev main_v91 : Ref sig .tc := ⟨.hbm, 164, rfl⟩
abbrev main_c_20 : Ref sig .tc := ⟨.hbm, 165, rfl⟩
abbrev main_v92 : Ref sig .tc := ⟨.hbm, 166, rfl⟩
abbrev main_v93 : Ref sig .tc := ⟨.hbm, 167, rfl⟩
abbrev main_c_21 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_c_22 : Ref sig .tc := ⟨.hbm, 174, rfl⟩
abbrev main_v99 : Ref sig .tc := ⟨.hbm, 175, rfl⟩
abbrev main_v100 : Ref sig .tc := ⟨.hbm, 176, rfl⟩
abbrev main_c_23 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_24 : Ref sig .tc := ⟨.hbm, 184, rfl⟩
abbrev main_call7_cst : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_v107 : Ref sig .tc := ⟨.hbm, 191, rfl⟩
abbrev main_call8_v0 : Ref sig .tc := ⟨.hbm, 192, rfl⟩
abbrev main_call8_v1_0 : Ref sig .tc := ⟨.hbm, 193, rfl⟩
abbrev main_v108 : Ref sig .tc := ⟨.hbm, 194, rfl⟩
abbrev main_call9_v0 : Ref sig .tc := ⟨.hbm, 195, rfl⟩
abbrev main_call9_v1_0 : Ref sig .tc := ⟨.hbm, 196, rfl⟩
abbrev main_v109 : Ref sig .tc := ⟨.hbm, 197, rfl⟩
abbrev main_c_25 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_26 : Ref sig .tc := ⟨.hbm, 203, rfl⟩
abbrev main_v114 : Ref sig .tc := ⟨.hbm, 204, rfl⟩
abbrev main_v115 : Ref sig .tc := ⟨.hbm, 205, rfl⟩
abbrev main_call11_c : Ref sig .tc := ⟨.hbm, 206, rfl⟩
abbrev main_call11_v0 : Ref sig .tc := ⟨.hbm, 207, rfl⟩
abbrev main_call11_v1 : Ref sig .tc := ⟨.hbm, 208, rfl⟩
abbrev main_call11_c_0 : Ref sig .tc := ⟨.hbm, 209, rfl⟩
abbrev main_call11_v2 : Ref sig .tc := ⟨.hbm, 210, rfl⟩
abbrev main_call11_v3 : Ref sig .tc := ⟨.hbm, 211, rfl⟩
abbrev main_call11_v4 : Ref sig .tc := ⟨.hbm, 212, rfl⟩
abbrev main_call11_v5 : Ref sig .tc := ⟨.hbm, 213, rfl⟩
abbrev main_call11_c_1 : Ref sig .tc := ⟨.hbm, 214, rfl⟩
abbrev main_call11_c_2 : Ref sig .tc := ⟨.hbm, 215, rfl⟩
abbrev main_call11_v6 : Ref sig .tc := ⟨.hbm, 216, rfl⟩
abbrev main_call11_v7 : Ref sig .tc := ⟨.hbm, 217, rfl⟩
abbrev main_call11_v8 : Ref sig .tc := ⟨.hbm, 218, rfl⟩
abbrev main_call11_v9 : Ref sig .tc := ⟨.hbm, 219, rfl⟩
abbrev main_call11_v10 : Ref sig .tc := ⟨.hbm, 220, rfl⟩
abbrev main_call11_v11 : Ref sig .tc := ⟨.hbm, 221, rfl⟩
abbrev main_call11_c_3 : Ref sig .tc := ⟨.hbm, 222, rfl⟩
abbrev main_call11_v12 : Ref sig .tc := ⟨.hbm, 223, rfl⟩
abbrev main_call11_v13 : Ref sig .tc := ⟨.hbm, 224, rfl⟩
abbrev main_call11_cst : Ref sig .tc := ⟨.hbm, 225, rfl⟩
abbrev main_call11_v14 : Ref sig .tc := ⟨.hbm, 226, rfl⟩
abbrev main_v116 : Ref sig .tc := ⟨.hbm, 227, rfl⟩
abbrev main_c_27 : Ref sig .tc := ⟨.hbm, 228, rfl⟩
abbrev main_v117 : Ref sig .tc := ⟨.hbm, 229, rfl⟩
abbrev main_v118 : Ref sig .tc := ⟨.hbm, 230, rfl⟩
abbrev main_cst_28 : Ref sig .tc := ⟨.hbm, 231, rfl⟩
abbrev main_call12_v0 : Ref sig .tc := ⟨.hbm, 232, rfl⟩
abbrev main_call12_v1 : Ref sig .tc := ⟨.hbm, 233, rfl⟩
abbrev main_v119 : Ref sig .tc := ⟨.hbm, 234, rfl⟩
abbrev main_c_29 : Ref sig .tc := ⟨.hbm, 235, rfl⟩
abbrev main_v120 : Ref sig .tc := ⟨.hbm, 236, rfl⟩
abbrev main_v121 : Ref sig .tc := ⟨.hbm, 237, rfl⟩
abbrev main_c_30 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_cst_31 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_c_32 : Ref sig .tc := ⟨.hbm, 250, rfl⟩
abbrev main_v132 : Ref sig .tc := ⟨.hbm, 251, rfl⟩
abbrev main_v133 : Ref sig .tc := ⟨.hbm, 252, rfl⟩
abbrev main_c_33 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_34 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_c_35 : Ref sig .tc := ⟨.hbm, 263, rfl⟩
abbrev main_v142 : Ref sig .tc := ⟨.hbm, 264, rfl⟩
abbrev main_v143 : Ref sig .tc := ⟨.hbm, 265, rfl⟩
abbrev main_c_36 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_cst_37 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_call13_cst : Ref sig .tc := ⟨.hbm, 282, rfl⟩
abbrev main_call13_v0 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_cst_38 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_cst_39 : Ref sig .tc := ⟨.hbm, 296, rfl⟩
abbrev main_v169 : Ref sig .tc := ⟨.hbm, 297, rfl⟩
abbrev main_c_40 : Ref sig .tc := ⟨.hbm, 298, rfl⟩
abbrev main_v170 : Ref sig .tc := ⟨.hbm, 299, rfl⟩
abbrev main_v171 : Ref sig .tc := ⟨.hbm, 300, rfl⟩
abbrev main_c_41 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_c_42 : Ref sig .tc := ⟨.hbm, 307, rfl⟩
abbrev main_v177 : Ref sig .tc := ⟨.hbm, 308, rfl⟩
abbrev main_v178 : Ref sig .tc := ⟨.hbm, 309, rfl⟩
abbrev main_c_43 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩
abbrev main_cst_44 : Ref sig .tc := ⟨.hbm, 317, rfl⟩
abbrev main_call14_cst : Ref sig .tc := ⟨.hbm, 318, rfl⟩
abbrev main_call14_v0 : Ref sig .tc := ⟨.hbm, 319, rfl⟩
abbrev main_call14_v1 : Ref sig .tc := ⟨.hbm, 320, rfl⟩
abbrev main_call14_v2 : Ref sig .tc := ⟨.hbm, 321, rfl⟩
abbrev main_call14_v3 : Ref sig .tc := ⟨.hbm, 322, rfl⟩
abbrev main_call14_v4 : Ref sig .tc := ⟨.hbm, 323, rfl⟩
abbrev main_v185 : Ref sig .tc := ⟨.hbm, 324, rfl⟩
abbrev main_call15_v0 : Ref sig .tc := ⟨.hbm, 325, rfl⟩
abbrev main_call15_v1_0 : Ref sig .tc := ⟨.hbm, 326, rfl⟩
abbrev main_v186 : Ref sig .tc := ⟨.hbm, 327, rfl⟩
abbrev main_call16_v0 : Ref sig .tc := ⟨.hbm, 328, rfl⟩
abbrev main_call16_v1_0 : Ref sig .tc := ⟨.hbm, 329, rfl⟩
abbrev main_v187 : Ref sig .tc := ⟨.hbm, 330, rfl⟩
abbrev main_c_45 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_c_46 : Ref sig .tc := ⟨.hbm, 336, rfl⟩
abbrev main_v192 : Ref sig .tc := ⟨.hbm, 337, rfl⟩
abbrev main_v193 : Ref sig .tc := ⟨.hbm, 338, rfl⟩
abbrev main_call18_c : Ref sig .tc := ⟨.hbm, 339, rfl⟩
abbrev main_call18_v0 : Ref sig .tc := ⟨.hbm, 340, rfl⟩
abbrev main_call18_v1 : Ref sig .tc := ⟨.hbm, 341, rfl⟩
abbrev main_call18_c_0 : Ref sig .tc := ⟨.hbm, 342, rfl⟩
abbrev main_call18_v2 : Ref sig .tc := ⟨.hbm, 343, rfl⟩
abbrev main_call18_v3 : Ref sig .tc := ⟨.hbm, 344, rfl⟩
abbrev main_call18_v4 : Ref sig .tc := ⟨.hbm, 345, rfl⟩
abbrev main_call18_c_1 : Ref sig .tc := ⟨.hbm, 346, rfl⟩
abbrev main_call18_c_2 : Ref sig .tc := ⟨.hbm, 347, rfl⟩
abbrev main_call18_v5 : Ref sig .tc := ⟨.hbm, 348, rfl⟩
abbrev main_call18_v6 : Ref sig .tc := ⟨.hbm, 349, rfl⟩
abbrev main_call18_v7 : Ref sig .tc := ⟨.hbm, 350, rfl⟩
abbrev main_call18_v8 : Ref sig .tc := ⟨.hbm, 351, rfl⟩
abbrev main_call18_v9 : Ref sig .tc := ⟨.hbm, 352, rfl⟩
abbrev main_call18_v10 : Ref sig .tc := ⟨.hbm, 353, rfl⟩
abbrev main_call18_c_3 : Ref sig .tc := ⟨.hbm, 354, rfl⟩
abbrev main_call18_v11 : Ref sig .tc := ⟨.hbm, 355, rfl⟩
abbrev main_call18_v12 : Ref sig .tc := ⟨.hbm, 356, rfl⟩
abbrev main_call18_v13 : Ref sig .tc := ⟨.hbm, 357, rfl⟩
abbrev main_call18_cst : Ref sig .tc := ⟨.hbm, 358, rfl⟩
abbrev main_call18_v14 : Ref sig .tc := ⟨.hbm, 359, rfl⟩
abbrev main_v194 : Ref sig .tc := ⟨.hbm, 360, rfl⟩
abbrev main_c_47 : Ref sig .tc := ⟨.hbm, 361, rfl⟩
abbrev main_v195 : Ref sig .tc := ⟨.hbm, 362, rfl⟩
abbrev main_v196 : Ref sig .tc := ⟨.hbm, 363, rfl⟩
abbrev main_cst_48 : Ref sig .tc := ⟨.hbm, 364, rfl⟩
abbrev main_call19_v0 : Ref sig .tc := ⟨.hbm, 365, rfl⟩
abbrev main_call19_v1 : Ref sig .tc := ⟨.hbm, 366, rfl⟩
abbrev main_v197 : Ref sig .tc := ⟨.hbm, 367, rfl⟩
abbrev main_c_49 : Ref sig .tc := ⟨.hbm, 368, rfl⟩
abbrev main_v198 : Ref sig .tc := ⟨.hbm, 369, rfl⟩
abbrev main_v199 : Ref sig .tc := ⟨.hbm, 370, rfl⟩
abbrev main_c_50 : Ref sig .tc := ⟨.hbm, 371, rfl⟩
abbrev main_v200 : Ref sig .tc := ⟨.hbm, 372, rfl⟩
abbrev main_v201 : Ref sig .tc := ⟨.hbm, 373, rfl⟩
abbrev main_v202 : Ref sig .tc := ⟨.hbm, 374, rfl⟩
abbrev main_v203 : Ref sig .tc := ⟨.hbm, 375, rfl⟩
abbrev main_v204 : Ref sig .tc := ⟨.hbm, 376, rfl⟩
abbrev main_v205 : Ref sig .tc := ⟨.hbm, 377, rfl⟩
abbrev main_v206 : Ref sig .tc := ⟨.hbm, 378, rfl⟩
abbrev main_cst_51 : Ref sig .tc := ⟨.hbm, 379, rfl⟩
abbrev main_v207 : Ref sig .tc := ⟨.hbm, 380, rfl⟩
abbrev main_v208 : Ref sig .tc := ⟨.hbm, 381, rfl⟩
abbrev main_v209 : Ref sig .tc := ⟨.hbm, 382, rfl⟩
abbrev main_c_52 : Ref sig .tc := ⟨.hbm, 383, rfl⟩
abbrev main_v210 : Ref sig .tc := ⟨.hbm, 384, rfl⟩
abbrev main_v211 : Ref sig .tc := ⟨.hbm, 385, rfl⟩
abbrev main_c_53 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_cst_54 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_c_55 : Ref sig .tc := ⟨.hbm, 396, rfl⟩
abbrev main_v220 : Ref sig .tc := ⟨.hbm, 397, rfl⟩
abbrev main_v221 : Ref sig .tc := ⟨.hbm, 398, rfl⟩
abbrev main_c_56 : Ref sig .tc := ⟨.hbm, 399, rfl⟩
abbrev main_v222 : Ref sig .tc := ⟨.hbm, 400, rfl⟩
abbrev main_v223 : Ref sig .tc := ⟨.hbm, 401, rfl⟩
abbrev main_v224 : Ref sig .tc := ⟨.hbm, 402, rfl⟩
abbrev main_v225 : Ref sig .tc := ⟨.hbm, 403, rfl⟩
abbrev main_v226 : Ref sig .tc := ⟨.hbm, 404, rfl⟩
abbrev main_v227 : Ref sig .tc := ⟨.hbm, 405, rfl⟩
abbrev main_v228 : Ref sig .tc := ⟨.hbm, 406, rfl⟩
abbrev main_v229 : Ref sig .tc := ⟨.hbm, 407, rfl⟩
abbrev main_cst_57 : Ref sig .tc := ⟨.hbm, 408, rfl⟩
abbrev main_v230 : Ref sig .tc := ⟨.hbm, 409, rfl⟩
abbrev main_v231 : Ref sig .tc := ⟨.hbm, 410, rfl⟩
abbrev main_v232 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_call20_cst : Ref sig .tc := ⟨.hbm, 415, rfl⟩
abbrev main_call20_v0 : Ref sig .tc := ⟨.hbm, 416, rfl⟩
abbrev main_v236 : Ref sig .tc := ⟨.hbm, 417, rfl⟩
abbrev main_v237 : Ref sig .tc := ⟨.hbm, 418, rfl⟩
abbrev main_cst_58 : Ref sig .tc := ⟨.hbm, 419, rfl⟩
abbrev main_v238 : Ref sig .tc := ⟨.hbm, 420, rfl⟩
abbrev main_c_59 : Ref sig .tc := ⟨.hbm, 421, rfl⟩
abbrev main_v239 : Ref sig .tc := ⟨.hbm, 422, rfl⟩
abbrev main_v240 : Ref sig .tc := ⟨.hbm, 423, rfl⟩
abbrev main_cst_60 : Ref sig .tc := ⟨.hbm, 424, rfl⟩
abbrev main_v241 : Ref sig .tc := ⟨.hbm, 425, rfl⟩
abbrev main_c_61 : Ref sig .tc := ⟨.hbm, 426, rfl⟩
abbrev main_v242 : Ref sig .tc := ⟨.hbm, 427, rfl⟩
abbrev main_c_62 : Ref sig .tc := ⟨.hbm, 428, rfl⟩
abbrev main_v243 : Ref sig .tc := ⟨.hbm, 429, rfl⟩
abbrev main_v244 : Ref sig .tc := ⟨.hbm, 430, rfl⟩
abbrev main_v245 : Ref sig .tc := ⟨.hbm, 431, rfl⟩
abbrev main_v246 : Ref sig .tc := ⟨.hbm, 432, rfl⟩
abbrev main_v247 : Ref sig .tc := ⟨.hbm, 433, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x25 : Shape := ⟨2, ![100000, 25]⟩
abbrev S2x3200000 : Shape := ⟨2, ![2, 3200000]⟩
abbrev S25x40 : Shape := ⟨2, ![25, 40]⟩
abbrev S4x10 : Shape := ⟨2, ![4, 10]⟩
abbrev S40 : Shape := ⟨1, ![40]⟩
abbrev S40x100 : Shape := ⟨2, ![40, 100]⟩
abbrev S4x25 : Shape := ⟨2, ![4, 25]⟩
abbrev S100 : Shape := ⟨1, ![100]⟩
abbrev S100x50 : Shape := ⟨2, ![100, 50]⟩
abbrev S1x50 : Shape := ⟨2, ![1, 50]⟩
abbrev S50 : Shape := ⟨1, ![50]⟩
abbrev S50x93 : Shape := ⟨2, ![50, 93]⟩
abbrev S93 : Shape := ⟨1, ![93]⟩
abbrev S1x3200000 : Shape := ⟨2, ![1, 3200000]⟩
abbrev S3200000 : Shape := ⟨1, ![3200000]⟩
abbrev S100000x40 : Shape := ⟨2, ![100000, 40]⟩
abbrev S100000x4x10 : Shape := ⟨3, ![100000, 4, 10]⟩
abbrev S1x4x10 : Shape := ⟨3, ![1, 4, 10]⟩
abbrev S_ : Shape := ⟨0, ![]⟩
abbrev S100000x4 : Shape := ⟨2, ![100000, 4]⟩
abbrev S3200000x1 : Shape := ⟨2, ![3200000, 1]⟩
abbrev S3200000x4 : Shape := ⟨2, ![3200000, 4]⟩
abbrev S100000x4x1 : Shape := ⟨3, ![100000, 4, 1]⟩
abbrev S1 : Shape := ⟨1, ![1]⟩
abbrev S1x1x1 : Shape := ⟨3, ![1, 1, 1]⟩
abbrev S3200000x4x10 : Shape := ⟨3, ![3200000, 4, 10]⟩
abbrev S3200000x4x1 : Shape := ⟨3, ![3200000, 4, 1]⟩
abbrev S100000x100 : Shape := ⟨2, ![100000, 100]⟩
abbrev S100000x4x25 : Shape := ⟨3, ![100000, 4, 25]⟩
abbrev S1x4x25 : Shape := ⟨3, ![1, 4, 25]⟩
abbrev S3200000x4x25 : Shape := ⟨3, ![3200000, 4, 25]⟩
abbrev S100000x50 : Shape := ⟨2, ![100000, 50]⟩
abbrev S100000x1x50 : Shape := ⟨3, ![100000, 1, 50]⟩
abbrev S1x1x50 : Shape := ⟨3, ![1, 1, 50]⟩
abbrev S100000x1 : Shape := ⟨2, ![100000, 1]⟩
abbrev S1x1 : Shape := ⟨2, ![1, 1]⟩
abbrev S100000 : Shape := ⟨1, ![100000]⟩
abbrev S3200000x1x50 : Shape := ⟨3, ![3200000, 1, 50]⟩
abbrev S3200000x1x1 : Shape := ⟨3, ![3200000, 1, 1]⟩
abbrev S100000x93 : Shape := ⟨2, ![100000, 93]⟩
abbrev S1x93 : Shape := ⟨2, ![1, 93]⟩

abbrev nBuf : Space → Nat
  | .hbm => 423
  | .vmem => 0
  | .smem => 0
  | _ => 0

abbrev hbmTy0_0 (i : Nat) : BufTy := match i % 128 with
  | 0 => ⟨S100000x25, .f32⟩
  | 1 => ⟨S2x3200000, .i32⟩
  | 2 => ⟨S25x40, .f32⟩
  | 3 => ⟨S4x10, .f32⟩
  | 4 => ⟨S4x10, .f32⟩
  | 5 => ⟨S40, .f32⟩
  | 6 => ⟨S40x100, .f32⟩
  | 7 => ⟨S4x25, .f32⟩
  | 8 => ⟨S4x25, .f32⟩
  | 9 => ⟨S100, .f32⟩
  | 10 => ⟨S100x50, .f32⟩
  | 11 => ⟨S1x50, .f32⟩
  | 12 => ⟨S1x50, .f32⟩
  | 13 => ⟨S50, .f32⟩
  | 14 => ⟨S50x93, .f32⟩
  | 15 => ⟨S93, .f32⟩
  | 16 => ⟨S1x3200000, .i32⟩
  | 17 => ⟨S3200000, .i32⟩
  | 18 => ⟨S1x3200000, .i32⟩
  | 19 => ⟨S3200000, .i32⟩
  | 20 => ⟨S100000x40, .f32⟩
  | 21 => ⟨S100000x4x10, .f32⟩
  | 22 => ⟨S1x4x10, .f32⟩
  | 23 => ⟨S100000x4x10, .f32⟩
  | 24 => ⟨S100000x4x10, .f32⟩
  | 25 => ⟨S_, .f32⟩
  | 26 => ⟨S100000x4, .f32⟩
  | 27 => ⟨S1x4x10, .f32⟩
  | 28 => ⟨S100000x4x10, .f32⟩
  | 29 => ⟨S100000x4x10, .f32⟩
  | 30 => ⟨S_, .f32⟩
  | 31 => ⟨S100000x4, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x4, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x4, .f32⟩
  | 50 => ⟨S3200000x4, .f32⟩
  | 51 => ⟨S_, .f32⟩
  | 52 => ⟨S_, .f32⟩
  | 53 => ⟨S3200000x4, .f32⟩
  | 54 => ⟨S3200000x4, .i1⟩
  | 55 => ⟨S_, .f32⟩
  | 56 => ⟨S3200000x4, .f32⟩
  | 57 => ⟨S3200000x4, .f32⟩
  | 58 => ⟨S3200000x4, .f32⟩
  | 59 => ⟨S3200000x4, .i32⟩
  | 60 => ⟨S3200000x4, .f32⟩
  | 61 => ⟨S3200000x4, .i32⟩
  | 62 => ⟨S3200000x4, .i32⟩
  | 63 => ⟨S3200000x4, .i32⟩
  | 64 => ⟨S3200000x4, .i32⟩
  | 65 => ⟨S_, .i32⟩
  | 66 => ⟨S100000x4, .i32⟩
  | 67 => ⟨S3200000x1, .i32⟩
  | 68 => ⟨S100000x4, .i32⟩
  | 69 => ⟨S3200000x4, .f32⟩
  | 70 => ⟨S_, .i32⟩
  | 71 => ⟨S100000x4, .i32⟩
  | 72 => ⟨S100000x4, .i32⟩
  | 73 => ⟨S_, .i32⟩
  | 74 => ⟨S100000x4, .i32⟩
  | 75 => ⟨S100000x4, .i1⟩
  | 76 => ⟨S_, .i32⟩
  | 77 => ⟨S100000x4, .i32⟩
  | 78 => ⟨S100000x4, .i32⟩
  | 79 => ⟨S100000x4, .i32⟩
  | 80 => ⟨S100000x4x1, .i32⟩
  | 81 => ⟨S1, .i32⟩
  | 82 => ⟨S_, .i32⟩
  | 83 => ⟨S100000x4x1, .i32⟩
  | 84 => ⟨S100000x4x1, .i1⟩
  | 85 => ⟨S1x1x1, .i32⟩
  | 86 => ⟨S100000x4x1, .i32⟩
  | 87 => ⟨S100000x4x1, .i1⟩
  | 88 => ⟨S100000x4x1, .i1⟩
  | 89 => ⟨S_, .i1⟩
  | 90 => ⟨S100000x4, .i1⟩
  | 91 => ⟨S100000x4, .f32⟩
  | 92 => ⟨S_, .f32⟩
  | 93 => ⟨S100000x4, .f32⟩
  | 94 => ⟨S100000x4, .f32⟩
  | 95 => ⟨S_, .i32⟩
  | 96 => ⟨S100000x4, .i32⟩
  | 97 => ⟨S100000x4, .i1⟩
  | 98 => ⟨S_, .f32⟩
  | 99 => ⟨S_, .f32⟩
  | 100 => ⟨S100000x4, .f32⟩
  | 101 => ⟨S100000x4, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x4, .f32⟩
  | 111 => ⟨S3200000x4, .f32⟩
  | 112 => ⟨S3200000x4, .f32⟩
  | 113 => ⟨S_, .f32⟩
  | 114 => ⟨S100000x4, .f32⟩
  | 115 => ⟨S3200000x1, .i32⟩
  | 116 => ⟨S100000x4, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000x4, .f32⟩
  | 126 => ⟨S_, .f32⟩
  | 127 => ⟨S3200000x4, .f32⟩
  | _ => ⟨S100000x25, .f32⟩

abbrev hbmTy0_1 (i : Nat) : BufTy := match i % 128 with
  | 0 => ⟨S3200000x4, .f32⟩
  | 1 => ⟨S3200000x4, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x4x10, .f32⟩
  | 11 => ⟨S3200000x4x1, .f32⟩
  | 12 => ⟨S3200000x4x10, .f32⟩
  | 13 => ⟨S3200000x4x10, .f32⟩
  | 14 => ⟨S_, .f32⟩
  | 15 => ⟨S100000x4x10, .f32⟩
  | 16 => ⟨S3200000x1, .i32⟩
  | 17 => ⟨S100000x4x10, .f32⟩
  | 18 => ⟨S1x4x10, .f32⟩
  | 19 => ⟨S100000x4x10, .f32⟩
  | 20 => ⟨S100000x4x10, .f32⟩
  | 21 => ⟨S_, .f32⟩
  | 22 => ⟨S100000x4x10, .f32⟩
  | 23 => ⟨S100000x4x10, .f32⟩
  | 24 => ⟨S100000x40, .f32⟩
  | 25 => ⟨S100000x100, .f32⟩
  | 26 => ⟨S100000x4x25, .f32⟩
  | 27 => ⟨S1x4x25, .f32⟩
  | 28 => ⟨S100000x4x25, .f32⟩
  | 29 => ⟨S100000x4x25, .f32⟩
  | 30 => ⟨S_, .f32⟩
  | 31 => ⟨S100000x4, .f32⟩
  | 32 => ⟨S1x4x25, .f32⟩
  | 33 => ⟨S100000x4x25, .f32⟩
  | 34 => ⟨S100000x4x25, .f32⟩
  | 35 => ⟨S_, .f32⟩
  | 36 => ⟨S100000x4, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x4, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x4, .f32⟩
  | 55 => ⟨S3200000x4, .f32⟩
  | 56 => ⟨S_, .f32⟩
  | 57 => ⟨S_, .f32⟩
  | 58 => ⟨S3200000x4, .f32⟩
  | 59 => ⟨S3200000x4, .i1⟩
  | 60 => ⟨S_, .f32⟩
  | 61 => ⟨S3200000x4, .f32⟩
  | 62 => ⟨S3200000x4, .f32⟩
  | 63 => ⟨S3200000x4, .f32⟩
  | 64 => ⟨S3200000x4, .i32⟩
  | 65 => ⟨S3200000x4, .f32⟩
  | 66 => ⟨S3200000x4, .i32⟩
  | 67 => ⟨S3200000x4, .i32⟩
  | 68 => ⟨S3200000x4, .i32⟩
  | 69 => ⟨S3200000x4, .i32⟩
  | 70 => ⟨S_, .i32⟩
  | 71 => ⟨S100000x4, .i32⟩
  | 72 => ⟨S3200000x1, .i32⟩
  | 73 => ⟨S100000x4, .i32⟩
  | 74 => ⟨S3200000x4, .f32⟩
  | 75 => ⟨S_, .i32⟩
  | 76 => ⟨S100000x4, .i32⟩
  | 77 => ⟨S100000x4, .i32⟩
  | 78 => ⟨S_, .i32⟩
  | 79 => ⟨S100000x4, .i32⟩
  | 80 => ⟨S100000x4, .i1⟩
  | 81 => ⟨S_, .i32⟩
  | 82 => ⟨S100000x4, .i32⟩
  | 83 => ⟨S100000x4, .i32⟩
  | 84 => ⟨S100000x4, .i32⟩
  | 85 => ⟨S100000x4x1, .i32⟩
  | 86 => ⟨S1, .i32⟩
  | 87 => ⟨S_, .i32⟩
  | 88 => ⟨S100000x4x1, .i32⟩
  | 89 => ⟨S100000x4x1, .i1⟩
  | 90 => ⟨S1x1x1, .i32⟩
  | 91 => ⟨S100000x4x1, .i32⟩
  | 92 => ⟨S100000x4x1, .i1⟩
  | 93 => ⟨S100000x4x1, .i1⟩
  | 94 => ⟨S_, .i1⟩
  | 95 => ⟨S100000x4, .i1⟩
  | 96 => ⟨S100000x4, .f32⟩
  | 97 => ⟨S_, .f32⟩
  | 98 => ⟨S100000x4, .f32⟩
  | 99 => ⟨S100000x4, .f32⟩
  | 100 => ⟨S_, .i32⟩
  | 101 => ⟨S100000x4, .i32⟩
  | 102 => ⟨S100000x4, .i1⟩
  | 103 => ⟨S_, .f32⟩
  | 104 => ⟨S_, .f32⟩
  | 105 => ⟨S100000x4, .f32⟩
  | 106 => ⟨S100000x4, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x4, .f32⟩
  | 116 => ⟨S3200000x4, .f32⟩
  | 117 => ⟨S3200000x4, .f32⟩
  | 118 => ⟨S_, .f32⟩
  | 119 => ⟨S100000x4, .f32⟩
  | 120 => ⟨S3200000x1, .i32⟩
  | 121 => ⟨S100000x4, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x25, .f32⟩

abbrev hbmTy0_2 (i : Nat) : BufTy := match i % 128 with
  | 0 => ⟨S3200000, .i32⟩
  | 1 => ⟨S3200000x1, .i32⟩
  | 2 => ⟨S3200000x4, .f32⟩
  | 3 => ⟨S_, .f32⟩
  | 4 => ⟨S3200000x4, .f32⟩
  | 5 => ⟨S3200000x4, .f32⟩
  | 6 => ⟨S3200000x4, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000x4x25, .f32⟩
  | 16 => ⟨S3200000x4x1, .f32⟩
  | 17 => ⟨S3200000x4x25, .f32⟩
  | 18 => ⟨S3200000x4x25, .f32⟩
  | 19 => ⟨S_, .f32⟩
  | 20 => ⟨S100000x4x25, .f32⟩
  | 21 => ⟨S3200000x1, .i32⟩
  | 22 => ⟨S100000x4x25, .f32⟩
  | 23 => ⟨S1x4x25, .f32⟩
  | 24 => ⟨S100000x4x25, .f32⟩
  | 25 => ⟨S100000x4x25, .f32⟩
  | 26 => ⟨S_, .f32⟩
  | 27 => ⟨S100000x4x25, .f32⟩
  | 28 => ⟨S100000x4x25, .f32⟩
  | 29 => ⟨S100000x100, .f32⟩
  | 30 => ⟨S100000x50, .f32⟩
  | 31 => ⟨S100000x1x50, .f32⟩
  | 32 => ⟨S1x1x50, .f32⟩
  | 33 => ⟨S100000x1x50, .f32⟩
  | 34 => ⟨S100000x1x50, .f32⟩
  | 35 => ⟨S_, .f32⟩
  | 36 => ⟨S100000x1, .f32⟩
  | 37 => ⟨S1x1x50, .f32⟩
  | 38 => ⟨S100000x1x50, .f32⟩
  | 39 => ⟨S100000x1x50, .f32⟩
  | 40 => ⟨S_, .f32⟩
  | 41 => ⟨S100000x1, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x1, .f32⟩
  | 60 => ⟨S3200000x1, .f32⟩
  | 61 => ⟨S_, .f32⟩
  | 62 => ⟨S_, .f32⟩
  | 63 => ⟨S3200000x1, .f32⟩
  | 64 => ⟨S3200000x1, .i1⟩
  | 65 => ⟨S_, .f32⟩
  | 66 => ⟨S3200000x1, .f32⟩
  | 67 => ⟨S3200000x1, .f32⟩
  | 68 => ⟨S3200000x1, .f32⟩
  | 69 => ⟨S3200000x1, .i32⟩
  | 70 => ⟨S3200000x1, .f32⟩
  | 71 => ⟨S3200000x1, .i32⟩
  | 72 => ⟨S3200000x1, .i32⟩
  | 73 => ⟨S3200000x1, .i32⟩
  | 74 => ⟨S3200000x1, .i32⟩
  | 75 => ⟨S_, .i32⟩
  | 76 => ⟨S100000x1, .i32⟩
  | 77 => ⟨S3200000x1, .i32⟩
  | 78 => ⟨S100000x1, .i32⟩
  | 79 => ⟨S3200000x1, .f32⟩
  | 80 => ⟨S_, .i32⟩
  | 81 => ⟨S100000x1, .i32⟩
  | 82 => ⟨S100000x1, .i32⟩
  | 83 => ⟨S_, .i32⟩
  | 84 => ⟨S100000x1, .i32⟩
  | 85 => ⟨S100000x1, .i1⟩
  | 86 => ⟨S_, .i32⟩
  | 87 => ⟨S100000x1, .i32⟩
  | 88 => ⟨S100000x1, .i32⟩
  | 89 => ⟨S100000x1, .i32⟩
  | 90 => ⟨S1, .i32⟩
  | 91 => ⟨S_, .i32⟩
  | 92 => ⟨S100000x1, .i32⟩
  | 93 => ⟨S100000x1, .i1⟩
  | 94 => ⟨S1x1, .i32⟩
  | 95 => ⟨S100000x1, .i32⟩
  | 96 => ⟨S100000x1, .i1⟩
  | 97 => ⟨S100000x1, .i1⟩
  | 98 => ⟨S_, .i1⟩
  | 99 => ⟨S100000, .i1⟩
  | 100 => ⟨S100000x1, .f32⟩
  | 101 => ⟨S100000x1, .i1⟩
  | 102 => ⟨S_, .f32⟩
  | 103 => ⟨S100000x1, .f32⟩
  | 104 => ⟨S100000x1, .f32⟩
  | 105 => ⟨S_, .i32⟩
  | 106 => ⟨S100000x1, .i32⟩
  | 107 => ⟨S100000x1, .i1⟩
  | 108 => ⟨S_, .f32⟩
  | 109 => ⟨S_, .f32⟩
  | 110 => ⟨S100000x1, .f32⟩
  | 111 => ⟨S100000x1, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x1, .f32⟩
  | 121 => ⟨S3200000x1, .f32⟩
  | 122 => ⟨S3200000x1, .f32⟩
  | 123 => ⟨S_, .f32⟩
  | 124 => ⟨S100000x1, .f32⟩
  | 125 => ⟨S3200000x1, .i32⟩
  | 126 => ⟨S100000x1, .f32⟩
  | 127 => ⟨S_, .i32⟩
  | _ => ⟨S100000x25, .f32⟩

abbrev hbmTy0_3 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000x1, .f32⟩
  | 8 => ⟨S_, .f32⟩
  | 9 => ⟨S3200000x1, .f32⟩
  | 10 => ⟨S3200000x1, .f32⟩
  | 11 => ⟨S3200000x1, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x1x50, .f32⟩
  | 21 => ⟨S3200000x1x1, .f32⟩
  | 22 => ⟨S3200000x1x50, .f32⟩
  | 23 => ⟨S3200000x1x50, .f32⟩
  | 24 => ⟨S_, .f32⟩
  | 25 => ⟨S100000x1x50, .f32⟩
  | 26 => ⟨S3200000x1, .i32⟩
  | 27 => ⟨S100000x1x50, .f32⟩
  | 28 => ⟨S1x1x50, .f32⟩
  | 29 => ⟨S100000x1x50, .f32⟩
  | 30 => ⟨S100000x1x50, .f32⟩
  | 31 => ⟨S_, .f32⟩
  | 32 => ⟨S100000x1x50, .f32⟩
  | 33 => ⟨S100000x1x50, .f32⟩
  | 34 => ⟨S100000x50, .f32⟩
  | 35 => ⟨S100000x93, .f32⟩
  | 36 => ⟨S1x93, .f32⟩
  | 37 => ⟨S100000x93, .f32⟩
  | 38 => ⟨S100000x93, .f32⟩
  | _ => ⟨S100000x25, .f32⟩

abbrev hbmTy (i : Nat) : BufTy := match i / 128 with
  | 0 => hbmTy0_0 i
  | 1 => hbmTy0_1 i
  | 2 => hbmTy0_2 i
  | 3 => hbmTy0_3 i
  | _ => ⟨S100000x25, .f32⟩

abbrev bufTy : (tb : Table) → Fin (tcTables nBuf tb) → BufTy
  | .hbm, ⟨i, _⟩ => hbmTy i
  | _, _ => ⟨S100000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v29 : Ref sig .tc := ⟨.hbm, 58, rfl⟩
abbrev main_call1_v0 : Ref sig .tc := ⟨.hbm, 59, rfl⟩
abbrev main_call1_v1_0 : Ref sig .tc := ⟨.hbm, 60, rfl⟩
abbrev main_v30 : Ref sig .tc := ⟨.hbm, 61, rfl⟩
abbrev main_call2_v0 : Ref sig .tc := ⟨.hbm, 62, rfl⟩
abbrev main_call2_v1_0 : Ref sig .tc := ⟨.hbm, 63, rfl⟩
abbrev main_v31 : Ref sig .tc := ⟨.hbm, 64, rfl⟩
abbrev main_c_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_6 : Ref sig .tc := ⟨.hbm, 70, rfl⟩
abbrev main_v36 : Ref sig .tc := ⟨.hbm, 71, rfl⟩
abbrev main_v37 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v38 : Ref sig .tc := ⟨.hbm, 94, rfl⟩
abbrev main_c_7 : Ref sig .tc := ⟨.hbm, 95, rfl⟩
abbrev main_v39 : Ref sig .tc := ⟨.hbm, 96, rfl⟩
abbrev main_v40 : Ref sig .tc := ⟨.hbm, 97, rfl⟩
abbrev main_cst_8 : Ref sig .tc := ⟨.hbm, 98, rfl⟩
abbrev main_call5_v0 : Ref sig .tc := ⟨.hbm, 99, rfl⟩
abbrev main_call5_v1 : Ref sig .tc := ⟨.hbm, 100, rfl⟩
abbrev main_v41 : Ref sig .tc := ⟨.hbm, 101, rfl⟩
abbrev main_c_9 : Ref sig .tc := ⟨.hbm, 102, rfl⟩
abbrev main_v42 : Ref sig .tc := ⟨.hbm, 103, rfl⟩
abbrev main_v43 : Ref sig .tc := ⟨.hbm, 104, rfl⟩
abbrev main_c_10 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_cst_11 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_c_12 : Ref sig .tc := ⟨.hbm, 117, rfl⟩
abbrev main_v54 : Ref sig .tc := ⟨.hbm, 118, rfl⟩
abbrev main_v55 : Ref sig .tc := ⟨.hbm, 119, rfl⟩
abbrev main_c_13 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_14 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_c_15 : Ref sig .tc := ⟨.hbm, 130, rfl⟩
abbrev main_v64 : Ref sig .tc := ⟨.hbm, 131, rfl⟩
abbrev main_v65 : Ref sig .tc := ⟨.hbm, 132, rfl⟩
abbrev main_c_16 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_17 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_call6_cst : Ref sig .tc := ⟨.hbm, 149, rfl⟩
abbrev main_call6_v0 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_18 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_19 : Ref sig .tc := ⟨.hbm, 163, rfl⟩
abbrev main_v91 : Ref sig .tc := ⟨.hbm, 164, rfl⟩
abbrev main_c_20 : Ref sig .tc := ⟨.hbm, 165, rfl⟩
abbrev main_v92 : Ref sig .tc := ⟨.hbm, 166, rfl⟩
abbrev main_v93 : Ref sig .tc := ⟨.hbm, 167, rfl⟩
abbrev main_c_21 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_c_22 : Ref sig .tc := ⟨.hbm, 174, rfl⟩
abbrev main_v99 : Ref sig .tc := ⟨.hbm, 175, rfl⟩
abbrev main_v100 : Ref sig .tc := ⟨.hbm, 176, rfl⟩
abbrev main_c_23 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_24 : Ref sig .tc := ⟨.hbm, 184, rfl⟩
abbrev main_call7_cst : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_v107 : Ref sig .tc := ⟨.hbm, 191, rfl⟩
abbrev main_call8_v0 : Ref sig .tc := ⟨.hbm, 192, rfl⟩
abbrev main_call8_v1_0 : Ref sig .tc := ⟨.hbm, 193, rfl⟩
abbrev main_v108 : Ref sig .tc := ⟨.hbm, 194, rfl⟩
abbrev main_call9_v0 : Ref sig .tc := ⟨.hbm, 195, rfl⟩
abbrev main_call9_v1_0 : Ref sig .tc := ⟨.hbm, 196, rfl⟩
abbrev main_v109 : Ref sig .tc := ⟨.hbm, 197, rfl⟩
abbrev main_c_25 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_26 : Ref sig .tc := ⟨.hbm, 203, rfl⟩
abbrev main_v114 : Ref sig .tc := ⟨.hbm, 204, rfl⟩
abbrev main_v115 : Ref sig .tc := ⟨.hbm, 205, rfl⟩
abbrev main_call11_c : Ref sig .tc := ⟨.hbm, 206, rfl⟩
abbrev main_call11_v0 : Ref sig .tc := ⟨.hbm, 207, rfl⟩
abbrev main_call11_v1 : Ref sig .tc := ⟨.hbm, 208, rfl⟩
abbrev main_call11_c_0 : Ref sig .tc := ⟨.hbm, 209, rfl⟩
abbrev main_call11_v2 : Ref sig .tc := ⟨.hbm, 210, rfl⟩
abbrev main_call11_v3 : Ref sig .tc := ⟨.hbm, 211, rfl⟩
abbrev main_call11_v4 : Ref sig .tc := ⟨.hbm, 212, rfl⟩
abbrev main_call11_v5 : Ref sig .tc := ⟨.hbm, 213, rfl⟩
abbrev main_call11_c_1 : Ref sig .tc := ⟨.hbm, 214, rfl⟩
abbrev main_call11_c_2 : Ref sig .tc := ⟨.hbm, 215, rfl⟩
abbrev main_call11_v6 : Ref sig .tc := ⟨.hbm, 216, rfl⟩
abbrev main_call11_v7 : Ref sig .tc := ⟨.hbm, 217, rfl⟩
abbrev main_call11_v8 : Ref sig .tc := ⟨.hbm, 218, rfl⟩
abbrev main_call11_v9 : Ref sig .tc := ⟨.hbm, 219, rfl⟩
abbrev main_call11_v10 : Ref sig .tc := ⟨.hbm, 220, rfl⟩
abbrev main_call11_v11 : Ref sig .tc := ⟨.hbm, 221, rfl⟩
abbrev main_call11_c_3 : Ref sig .tc := ⟨.hbm, 222, rfl⟩
abbrev main_call11_v12 : Ref sig .tc := ⟨.hbm, 223, rfl⟩
abbrev main_call11_v13 : Ref sig .tc := ⟨.hbm, 224, rfl⟩
abbrev main_call11_cst : Ref sig .tc := ⟨.hbm, 225, rfl⟩
abbrev main_call11_v14 : Ref sig .tc := ⟨.hbm, 226, rfl⟩
abbrev main_v116 : Ref sig .tc := ⟨.hbm, 227, rfl⟩
abbrev main_c_27 : Ref sig .tc := ⟨.hbm, 228, rfl⟩
abbrev main_v117 : Ref sig .tc := ⟨.hbm, 229, rfl⟩
abbrev main_v118 : Ref sig .tc := ⟨.hbm, 230, rfl⟩
abbrev main_cst_28 : Ref sig .tc := ⟨.hbm, 231, rfl⟩
abbrev main_call12_v0 : Ref sig .tc := ⟨.hbm, 232, rfl⟩
abbrev main_call12_v1 : Ref sig .tc := ⟨.hbm, 233, rfl⟩
abbrev main_v119 : Ref sig .tc := ⟨.hbm, 234, rfl⟩
abbrev main_c_29 : Ref sig .tc := ⟨.hbm, 235, rfl⟩
abbrev main_v120 : Ref sig .tc := ⟨.hbm, 236, rfl⟩
abbrev main_v121 : Ref sig .tc := ⟨.hbm, 237, rfl⟩
abbrev main_c_30 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_cst_31 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_c_32 : Ref sig .tc := ⟨.hbm, 250, rfl⟩
abbrev main_v132 : Ref sig .tc := ⟨.hbm, 251, rfl⟩
abbrev main_v133 : Ref sig .tc := ⟨.hbm, 252, rfl⟩
abbrev main_c_33 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_34 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_c_35 : Ref sig .tc := ⟨.hbm, 263, rfl⟩
abbrev main_v142 : Ref sig .tc := ⟨.hbm, 264, rfl⟩
abbrev main_v143 : Ref sig .tc := ⟨.hbm, 265, rfl⟩
abbrev main_c_36 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_cst_37 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_call13_cst : Ref sig .tc := ⟨.hbm, 282, rfl⟩
abbrev main_call13_v0 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_cst_38 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_cst_39 : Ref sig .tc := ⟨.hbm, 296, rfl⟩
abbrev main_v169 : Ref sig .tc := ⟨.hbm, 297, rfl⟩
abbrev main_c_40 : Ref sig .tc := ⟨.hbm, 298, rfl⟩
abbrev main_v170 : Ref sig .tc := ⟨.hbm, 299, rfl⟩
abbrev main_v171 : Ref sig .tc := ⟨.hbm, 300, rfl⟩
abbrev main_c_41 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_c_42 : Ref sig .tc := ⟨.hbm, 307, rfl⟩
abbrev main_v177 : Ref sig .tc := ⟨.hbm, 308, rfl⟩
abbrev main_v178 : Ref sig .tc := ⟨.hbm, 309, rfl⟩
abbrev main_c_43 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩
abbrev main_cst_44 : Ref sig .tc := ⟨.hbm, 317, rfl⟩
abbrev main_call14_cst : Ref sig .tc := ⟨.hbm, 318, rfl⟩
abbrev main_call14_v0 : Ref sig .tc := ⟨.hbm, 319, rfl⟩
abbrev main_call14_v1 : Ref sig .tc := ⟨.hbm, 320, rfl⟩
abbrev main_call14_v2 : Ref sig .tc := ⟨.hbm, 321, rfl⟩
abbrev main_call14_v3 : Ref sig .tc := ⟨.hbm, 322, rfl⟩
abbrev main_call14_v4 : Ref sig .tc := ⟨.hbm, 323, rfl⟩
abbrev main_v185 : Ref sig .tc := ⟨.hbm, 324, rfl⟩
abbrev main_call15_v0 : Ref sig .tc := ⟨.hbm, 325, rfl⟩
abbrev main_call15_v1_0 : Ref sig .tc := ⟨.hbm, 326, rfl⟩
abbrev main_v186 : Ref sig .tc := ⟨.hbm, 327, rfl⟩
abbrev main_call16_v0 : Ref sig .tc := ⟨.hbm, 328, rfl⟩
abbrev main_call16_v1_0 : Ref sig .tc := ⟨.hbm, 329, rfl⟩
abbrev main_v187 : Ref sig .tc := ⟨.hbm, 330, rfl⟩
abbrev main_c_45 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_c_46 : Ref sig .tc := ⟨.hbm, 336, rfl⟩
abbrev main_v192 : Ref sig .tc := ⟨.hbm, 337, rfl⟩
abbrev main_v193 : Ref sig .tc := ⟨.hbm, 338, rfl⟩
abbrev main_call18_c : Ref sig .tc := ⟨.hbm, 339, rfl⟩
abbrev main_call18_v0 : Ref sig .tc := ⟨.hbm, 340, rfl⟩
abbrev main_call18_v1 : Ref sig .tc := ⟨.hbm, 341, rfl⟩
abbrev main_call18_c_0 : Ref sig .tc := ⟨.hbm, 342, rfl⟩
abbrev main_call18_v2 : Ref sig .tc := ⟨.hbm, 343, rfl⟩
abbrev main_call18_v3 : Ref sig .tc := ⟨.hbm, 344, rfl⟩
abbrev main_call18_v4 : Ref sig .tc := ⟨.hbm, 345, rfl⟩
abbrev main_call18_c_1 : Ref sig .tc := ⟨.hbm, 346, rfl⟩
abbrev main_call18_c_2 : Ref sig .tc := ⟨.hbm, 347, rfl⟩
abbrev main_call18_v5 : Ref sig .tc := ⟨.hbm, 348, rfl⟩
abbrev main_call18_v6 : Ref sig .tc := ⟨.hbm, 349, rfl⟩
abbrev main_call18_v7 : Ref sig .tc := ⟨.hbm, 350, rfl⟩
abbrev main_call18_v8 : Ref sig .tc := ⟨.hbm, 351, rfl⟩
abbrev main_call18_v9 : Ref sig .tc := ⟨.hbm, 352, rfl⟩
abbrev main_call18_v10 : Ref sig .tc := ⟨.hbm, 353, rfl⟩
abbrev main_call18_c_3 : Ref sig .tc := ⟨.hbm, 354, rfl⟩
abbrev main_call18_v11 : Ref sig .tc := ⟨.hbm, 355, rfl⟩
abbrev main_call18_v12 : Ref sig .tc := ⟨.hbm, 356, rfl⟩
abbrev main_call18_v13 : Ref sig .tc := ⟨.hbm, 357, rfl⟩
abbrev main_call18_cst : Ref sig .tc := ⟨.hbm, 358, rfl⟩
abbrev main_call18_v14 : Ref sig .tc := ⟨.hbm, 359, rfl⟩
abbrev main_v194 : Ref sig .tc := ⟨.hbm, 360, rfl⟩
abbrev main_c_47 : Ref sig .tc := ⟨.hbm, 361, rfl⟩
abbrev main_v195 : Ref sig .tc := ⟨.hbm, 362, rfl⟩
abbrev main_v196 : Ref sig .tc := ⟨.hbm, 363, rfl⟩
abbrev main_cst_48 : Ref sig .tc := ⟨.hbm, 364, rfl⟩
abbrev main_call19_v0 : Ref sig .tc := ⟨.hbm, 365, rfl⟩
abbrev main_call19_v1 : Ref sig .tc := ⟨.hbm, 366, rfl⟩
abbrev main_v197 : Ref sig .tc := ⟨.hbm, 367, rfl⟩
abbrev main_c_49 : Ref sig .tc := ⟨.hbm, 368, rfl⟩
abbrev main_v198 : Ref sig .tc := ⟨.hbm, 369, rfl⟩
abbrev main_v199 : Ref sig .tc := ⟨.hbm, 370, rfl⟩
abbrev main_c_50 : Ref sig .tc := ⟨.hbm, 371, rfl⟩
abbrev main_v200 : Ref sig .tc := ⟨.hbm, 372, rfl⟩
abbrev main_v201 : Ref sig .tc := ⟨.hbm, 373, rfl⟩
abbrev main_v202 : Ref sig .tc := ⟨.hbm, 374, rfl⟩
abbrev main_v203 : Ref sig .tc := ⟨.hbm, 375, rfl⟩
abbrev main_v204 : Ref sig .tc := ⟨.hbm, 376, rfl⟩
abbrev main_v205 : Ref sig .tc := ⟨.hbm, 377, rfl⟩
abbrev main_v206 : Ref sig .tc := ⟨.hbm, 378, rfl⟩
abbrev main_cst_51 : Ref sig .tc := ⟨.hbm, 379, rfl⟩
abbrev main_v207 : Ref sig .tc := ⟨.hbm, 380, rfl⟩
abbrev main_v208 : Ref sig .tc := ⟨.hbm, 381, rfl⟩
abbrev main_v209 : Ref sig .tc := ⟨.hbm, 382, rfl⟩
abbrev main_c_52 : Ref sig .tc := ⟨.hbm, 383, rfl⟩
abbrev main_v210 : Ref sig .tc := ⟨.hbm, 384, rfl⟩
abbrev main_v211 : Ref sig .tc := ⟨.hbm, 385, rfl⟩
abbrev main_c_53 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_cst_54 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_c_55 : Ref sig .tc := ⟨.hbm, 396, rfl⟩
abbrev main_v220 : Ref sig .tc := ⟨.hbm, 397, rfl⟩
abbrev main_v221 : Ref sig .tc := ⟨.hbm, 398, rfl⟩
abbrev main_c_56 : Ref sig .tc := ⟨.hbm, 399, rfl⟩
abbrev main_v222 : Ref sig .tc := ⟨.hbm, 400, rfl⟩
abbrev main_v223 : Ref sig .tc := ⟨.hbm, 401, rfl⟩
abbrev main_v224 : Ref sig .tc := ⟨.hbm, 402, rfl⟩
abbrev main_v225 : Ref sig .tc := ⟨.hbm, 403, rfl⟩
abbrev main_v226 : Ref sig .tc := ⟨.hbm, 404, rfl⟩
abbrev main_v227 : Ref sig .tc := ⟨.hbm, 405, rfl⟩
abbrev main_v228 : Ref sig .tc := ⟨.hbm, 406, rfl⟩
abbrev main_v229 : Ref sig .tc := ⟨.hbm, 407, rfl⟩
abbrev main_cst_57 : Ref sig .tc := ⟨.hbm, 408, rfl⟩
abbrev main_v230 : Ref sig .tc := ⟨.hbm, 409, rfl⟩
abbrev main_v231 : Ref sig .tc := ⟨.hbm, 410, rfl⟩
abbrev main_v232 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_call20_cst : Ref sig .tc := ⟨.hbm, 415, rfl⟩
abbrev main_call20_v0 : Ref sig .tc := ⟨.hbm, 416, rfl⟩
abbrev main_v236 : Ref sig .tc := ⟨.hbm, 417, rfl⟩
abbrev main_v237 : Ref sig .tc := ⟨.hbm, 418, rfl⟩
abbrev main_v238 : Ref sig .tc := ⟨.hbm, 419, rfl⟩
abbrev main_v239 : Ref sig .tc := ⟨.hbm, 420, rfl⟩
abbrev main_v240 : Ref sig .tc := ⟨.hbm, 421, rfl⟩
abbrev main_v241 : Ref sig .tc := ⟨.hbm, 422, rfl⟩

abbrev nD : Nat := 1
abbrev τ : Topo := Topo.v7x

variable {F : FTy → Type} [FloatOps F]
-- ==== Proof.Mirror.lean ====
/- Two straight lines of host operations over two signatures that do the same thing, operation for operation.

   `Same n x x'` says that two references stand at the same index, below `n`, of the main memory of their programs.
   `Agree n V V'` says that two valuations hold the same contents at every such pair. `Twin n op op'` says that two
   operations write the two buffers at index `n`, and from valuations that agree below `n` write the same contents there;
   `twin_nullary` … show it for the builders. `Twins top k ops ops'` says that two lines of `k` operations are twins in order
   and write the indices below `top` in increasing order, up to `top - 1`. `agree_after` runs such lines: valuations that agree
   below the first index written agree below `top` at the end. -/
module

public import Idealize.ShloMosaic.Lib.StableHlo.Run

@[expose] public section

noncomputable section

namespace Cert.Mirror

open Idealize.ShloMosaic Idealize.ShloMosaic.TcCoe Idealize.ShloMosaic.StableHlo

variable {τ τ' : Topo} {sig sig' : RefSig} {Val : EltTy → Type} {n : Nat}

/-- The two references stand at the same index, below `n`, of the main memory. -/
structure Same (n : Nat) (x : Ref sig .tc) (x' : Ref sig' .tc) : Prop where
  space : x.space = .hbm
  space' : x'.space = .hbm
  idx : x.idx.val = x'.idx.val
  lt : x.idx.val < n

/-- References of one program in the main memory at one index are equal. -/
theorem ref_ext {x y : Ref sig .tc} (hx : x.space = .hbm) (hy : y.space = .hbm) (h : x.idx.val = y.idx.val) : x = y := by
  obtain ⟨s, i, p⟩ := x
  obtain ⟨t, j, q⟩ := y
  simp only at hx hy h
  subst hx hy
  obtain rfl : i = j := Fin.ext h
  rfl

/-- The two valuations hold the same contents at every pair of `Same` references. -/
def Agree (n : Nat) (V : Valuation τ sig Val) (V' : Valuation τ' sig' Val) : Prop :=
  ∀ (x : Ref sig .tc) (x' : Ref sig' .tc), Same n x x' → HEq (V (Proc.devRef .tc x)) (V' (Proc.devRef .tc x'))

/-- The two references stand at index `n` of the main memory. -/
structure At (n : Nat) (y : Ref sig .tc) (y' : Ref sig' .tc) : Prop where
  space : y.space = .hbm
  space' : y'.space = .hbm
  idx : y.idx.val = n
  idx' : y'.idx.val = n

/-- Nothing stands below index 0. -/
theorem agree_zero (V : Valuation τ sig Val) (V' : Valuation τ' sig' Val) : Agree 0 V V' :=
  fun _ _ h => absurd h.lt (Nat.not_lt_zero _)

/-- Equal contents at index `n` extend an agreement below it. -/
theorem Agree.step {V : Valuation τ sig Val} {V' : Valuation τ' sig' Val} (ha : Agree n V V') {y : Ref sig .tc} {y' : Ref sig' .tc}
    (hy : At n y y') (h : HEq (V (Proc.devRef .tc y)) (V' (Proc.devRef .tc y'))) : Agree (n + 1) V V' := by
  intro x x' hx
  by_cases e : x.idx.val = n
  · obtain rfl := ref_ext hx.space hy.space (e.trans hy.idx.symm)
    obtain rfl := ref_ext hx.space' hy.space' ((hx.idx.symm.trans e).trans hy.idx'.symm)
    exact h
  · exact ha x x' ⟨hx.space, hx.space', hx.idx, by have := hx.lt; omega⟩

/-- The two operations write the buffers at index `n`, and write the same contents from valuations that agree below it. -/
def Twin (n : Nat) (op : HloOp τ sig Val) (op' : HloOp τ' sig' Val) : Prop :=
  ∃ (y : Ref sig .tc) (y' : Ref sig' .tc), At n y y' ∧ op.writes = {Proc.devRef (τ := τ) .tc y}
    ∧ op'.writes = {Proc.devRef (τ := τ') .tc y'}
    ∧ ∀ V V', Agree n V V' → HEq (op.result V (Proc.devRef .tc y)) (op'.result V' (Proc.devRef .tc y'))

/-- Twins at index `n` extend the agreement by that index. -/
theorem Twin.agree {op : HloOp τ sig Val} {op' : HloOp τ' sig' Val} (h : Twin n op op') {V : Valuation τ sig Val}
    {V' : Valuation τ' sig' Val} (ha : Agree n V V') : Agree (n + 1) (op.result V) (op'.result V') := by
  obtain ⟨y, y', hy, hw, hw', hv⟩ := h
  intro x x' hx
  by_cases e : x.idx.val = n
  · obtain rfl := ref_ext hx.space hy.space (e.trans hy.idx.symm)
    obtain rfl := ref_ext hx.space' hy.space' ((hx.idx.symm.trans e).trans hy.idx'.symm)
    exact hv V V' ha
  · have ne : x ≠ y := fun c => e (c ▸ hy.idx)
    have ne' : x' ≠ y' := fun c => e (hx.idx.trans (c ▸ hy.idx'))
    rw [result_of_writes_ne op V y x hw ne, result_of_writes_ne op' V' y' x' hw' ne']
    exact ha x x' ⟨hx.space, hx.space', hx.idx, by have := hx.lt; omega⟩

/-- Two lines of `k` operations that are twins in order and write the indices `top - k`, …, `top - 1`. -/
inductive Twins (top : Nat) : Nat → List (HloOp τ sig Val) → List (HloOp τ' sig' Val) → Prop
  | nil : Twins top 0 [] []
  | cons {k op op' ops ops'} : Twin (top - (k + 1)) op op' → Twins top k ops ops' → Twins top (k + 1) (op :: ops) (op' :: ops')

/-- Such lines extend the agreement up to `top`. -/
theorem agree_after {top k : Nat} {ops : List (HloOp τ sig Val)} {ops' : List (HloOp τ' sig' Val)} (h : Twins top k ops ops') :
    k ≤ top → ∀ {V : Valuation τ sig Val} {V' : Valuation τ' sig' Val}, Agree (top - k) V V' →
      Agree top (after ops V) (after ops' V') := by
  induction h with
  | nil => exact fun _ _ _ ha => ha
  | @cons k _ _ _ _ h _ ih =>
    intro hk V V' ha
    have e : top - (k + 1) + 1 = top - k := by omega
    exact ih (by omega) (e ▸ h.agree ha)

section Builders

variable {a b c x y : Ref sig .tc} {a' b' c' x' y' : Ref sig' .tc}

theorem twin_nullary {v : y.ty.Contents Val} {v' : y'.ty.Contents Val} {hy hy'} (sy : At n y y') (h : HEq v v') :
    Twin n (nullary (τ := τ) y v hy) (nullary (τ := τ') y' v' hy') :=
  ⟨y, y', sy, rfl, rfl, fun V V' _ => by rw [nullary_result, nullary_result]; exact h⟩

theorem twin_unary {f : x.ty.Contents Val → y.ty.Contents Val} {f' : x'.ty.Contents Val → y'.ty.Contents Val} {hx hy hx' hy'}
    (sx : Same n x x') (sy : At n y y') (h : ∀ u u', HEq u u' → HEq (f u) (f' u')) :
    Twin n (unary (τ := τ) x y f hx hy) (unary (τ := τ') x' y' f' hx' hy') :=
  ⟨y, y', sy, rfl, rfl, fun V V' ha => by rw [unary_result, unary_result]; exact h _ _ (ha _ _ sx)⟩

theorem twin_binary {f : a.ty.Contents Val → b.ty.Contents Val → y.ty.Contents Val}
    {f' : a'.ty.Contents Val → b'.ty.Contents Val → y'.ty.Contents Val} {ha hb hy ha' hb' hy'}
    (sa : Same n a a') (sb : Same n b b') (sy : At n y y')
    (h : ∀ u u' v v', HEq u u' → HEq v v' → HEq (f u v) (f' u' v')) :
    Twin n (binary (τ := τ) a b y f ha hb hy) (binary (τ := τ') a' b' y' f' ha' hb' hy') :=
  ⟨y, y', sy, rfl, rfl, fun V V' hg => by rw [binary_result, binary_result]; exact h _ _ _ _ (hg _ _ sa) (hg _ _ sb)⟩

theorem twin_ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (sc : Same n c c') (sa : Same n a a') (sb : Same n b b') (sy : At n y y')
    (h : ∀ w w' u u' v v', HEq w w' → HEq u u' → HEq v v' → HEq (f w u v) (f' w' u' v')) :
    Twin n (ternary (τ := τ) c a b y f hc ha hb hy) (ternary (τ := τ') c' a' b' y' f' hc' ha' hb' hy') :=
  ⟨y, y', sy, rfl, rfl, fun V V' hg => by
    rw [ternary_result, ternary_result]; exact h _ _ _ _ _ _ (hg _ _ sc) (hg _ _ sa) (hg _ _ sb)⟩

/-- A reshape takes equal contents of equal types to equal contents. -/
theorem reshape_heq {T T' S S' : BufTy} (he : T.elt = S.elt) (hn : T.shape.ShapeCasts S.shape) (he' : T'.elt = S'.elt)
    (hn' : T'.shape.ShapeCasts S'.shape) (tx : T = T') (ty : S = S') (u : T.Contents Val) (u' : T'.Contents Val) (h : HEq u u') :
    HEq (fun i => he ▸ shapeCast S.shape u hn i : S.Contents Val) (fun i => he' ▸ shapeCast S'.shape u' hn' i : S'.Contents Val) := by
  subst tx ty
  obtain rfl := eq_of_heq h
  rfl

theorem twin_reshape {he hn hx hy he' hn' hx' hy'} (sx : Same n x x') (sy : At n y y')
    (tx : x.ty = x'.ty) (ty : y.ty = y'.ty) :
    Twin n (reshape (τ := τ) (Val := Val) x y he hn hx hy) (reshape (τ := τ') (Val := Val) x' y' he' hn' hx' hy') :=
  ⟨y, y', sy, rfl, rfl, fun V V' hg => by
    rw [reshape_result, reshape_result]
    exact reshape_heq he hn he' hn' tx ty _ _ (hg _ _ sx)⟩

end Builders

end Cert.Mirror

end
-- ==== Proof.Prefix.lean ====
/- The kernel's program and the reference begin with the same 403 host operations: the three attention layers.

   Both print to one line of operations up to the third layer's result (`main_v237` of both), over two signatures whose
   main memories list the same buffers up to there. `twins` pairs the operations in order; so from launch contents that agree
   on the arguments, the kernel's region finds in `main_v237` what the reference's line leaves in its `main_v237`
   (`layers_agree`). The operations' values are never composed: each pair is compared by itself. -/
module

public import proofs.«01_k».proof.Proof.Mirror
public import proofs.«01_k».proof.Proof.Gen.KernelIdeal.Launch
public import proofs.«01_k».proof.Proof.Gen.ReferenceIdeal.Run

@[expose] public section

set_option maxRecDepth 16384

noncomputable section

namespace Cert.Prefix

open Idealize.ShloMosaic Idealize.ShloMosaic.TcCoe Idealize.ShloMosaic.StableHlo Cert.Mirror

variable {F : FTy → Type} [FloatOps F]

/-- The kernel's host operations before its region. -/
abbrev kernelOps : List (HloOp KernelIdeal.τ KernelIdeal.sig (Elt F)) :=
  List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7, KernelIdeal.Gen.hostOps0_8, KernelIdeal.Gen.hostOps0_9, KernelIdeal.Gen.hostOps0_10, KernelIdeal.Gen.hostOps0_11, KernelIdeal.Gen.hostOps0_12, KernelIdeal.Gen.hostOps0_13, KernelIdeal.Gen.hostOps0_14, KernelIdeal.Gen.hostOps0_15, KernelIdeal.Gen.hostOps0_16, KernelIdeal.Gen.hostOps0_17, KernelIdeal.Gen.hostOps0_18, KernelIdeal.Gen.hostOps0_19, KernelIdeal.Gen.hostOps0_20, KernelIdeal.Gen.hostOps0_21, KernelIdeal.Gen.hostOps0_22, KernelIdeal.Gen.hostOps0_23, KernelIdeal.Gen.hostOps0_24, KernelIdeal.Gen.hostOps0_25, KernelIdeal.Gen.hostOps0_26, KernelIdeal.Gen.hostOps0_27, KernelIdeal.Gen.hostOps0_28, KernelIdeal.Gen.hostOps0_29, KernelIdeal.Gen.hostOps0_30, KernelIdeal.Gen.hostOps0_31, KernelIdeal.Gen.hostOps0_32, KernelIdeal.Gen.hostOps0_33, KernelIdeal.Gen.hostOps0_34, KernelIdeal.Gen.hostOps0_35, KernelIdeal.Gen.hostOps0_36]

/-- The reference's host operations. -/
abbrev referenceOps : List (HloOp ReferenceIdeal.τ ReferenceIdeal.sig (Elt F)) := ReferenceIdeal.Value.ops

set_option maxHeartbeats 40000000 in
/-- The first 403 operations of both, paired in order. -/
theorem twins : Twins 419 403 ((kernelOps (F := F)).take 403) ((referenceOps (F := F)).take 403) := by
  repeat' first
    | exact Twins.nil
    | refine Twins.cons ?_ ?_
    | with_reducible apply twin_nullary
    | with_reducible apply twin_reshape
    | with_reducible apply twin_unary
    | with_reducible apply twin_binary
    | with_reducible apply twin_ternary
    | exact Same.mk rfl rfl rfl (by decide)
    | exact At.mk rfl rfl rfl rfl
    | exact HEq.rfl
    | exact rfl
    | (intro u u' h; obtain rfl := eq_of_heq h; exact HEq.rfl)
    | (intro u u' v v' h k; obtain rfl := eq_of_heq h; obtain rfl := eq_of_heq k; exact HEq.rfl)
    | (intro w w' u u' v v' l h k; obtain rfl := eq_of_heq l; obtain rfl := eq_of_heq h; obtain rfl := eq_of_heq k; exact HEq.rfl)

/-- From valuations that agree on the sixteen arguments, the layers leave valuations that agree up to the third layer's result. -/
theorem layers_agree {V : Valuation KernelIdeal.τ KernelIdeal.sig (Elt F)} {V' : Valuation ReferenceIdeal.τ ReferenceIdeal.sig (Elt F)}
    (h : Agree 16 V V') : Agree 419 (after ((kernelOps (F := F)).take 403) V) (after ((referenceOps (F := F)).take 403) V') :=
  agree_after twins (by decide) h

/-- What the kernel's host operations leave after the layers: the padding of the last product's weights and bias. -/
theorem kernel_split (V : Valuation KernelIdeal.τ KernelIdeal.sig (Elt F)) :
    after (kernelOps (F := F)) V = after (KernelIdeal.Gen.hostOps0_36.drop 1) (after ((kernelOps (F := F)).take 403) V) := by
  rw [← after_append]
  rfl

/-- The reference's operations after the layers: the product and the bias. -/
theorem reference_split (V : Valuation ReferenceIdeal.τ ReferenceIdeal.sig (Elt F)) :
    after (referenceOps (F := F)) V = after ((referenceOps (F := F)).drop 403) (after ((referenceOps (F := F)).take 403) V) := by
  rw [← after_append, List.take_append_drop]

end Cert.Prefix

end
-- ==== Proof.Padded.lean ====
/- The weights and the bias that the kernel pads to 128 columns.

   The kernel writes the 93 columns of the weights, and of the bias, into the first columns of arrays of zeros.
   `weights_at` and `bias_at` read the padded arrays in those columns: they are the arguments' elements.
   The other columns are cut from the result, so nothing is said of them. -/
module

public import proofs.«01_k».proof.Proof.Gen.KernelIdeal
public import Idealize.ShloMosaic.Lib.Routing.OpsSet
public import Idealize.ShloMosaic.Lib.Routing.OpsPair

@[expose] public section

set_option maxRecDepth 16384

noncomputable section

open Idealize.ShloMosaic Idealize.ShloMosaic.TcCoe Idealize.ShloMosaic.Routing Idealize.ShloMosaic.ValueIdx

namespace Cert.KernelIdeal.Padded

open Cert.KernelIdeal Cert.KernelIdeal.Gen

variable {F : FTy → Type} [FloatOps F]

/-- The weights in the first 93 of 128 columns. -/
def weights (w : FVec F S50x93 .f32) : FVec F S50x128 .f32 :=
  Host.scatter scatter_S50x128_S1_S50x93_01_n_1_0 (fun _ b => b) (broadcastInDim S50x128 ![] bcast_S_S50x128 (constant S_ .f32 0x00000000#32))
    (broadcastInDim S1 ![] bcast_S_S1 (constantI S_ 32 0#32)) w

/-- The bias in the first 93 of 128 columns. -/
def bias (b : FVec F S93 .f32) : FVec F S1x128 .f32 :=
  Host.scatter scatter_S1x128_S2_S93_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) b

/-- Where the element `(r, q)` of the weights is written. -/
theorem weights_place (idx : IVec S1 32) (h : ∀ i, idx i = 0#32) (k : S50x93.Idx) (r : Fin 50) (c : Fin 128) :
    scatter_S50x128_S1_S50x93_01_n_1_0.resultIdx? k idx = some (ix2 r c) ↔ (k 0 : Nat) = r ∧ (k 1 : Nat) = c := by
  have s0 : scatter_S50x128_S1_S50x93_01_n_1_0.start k idx 0 = 0 := rfl
  have s1 : scatter_S50x128_S1_S50x93_01_n_1_0.start k idx 1 = 0 := by
    unfold ScatterDims.start
    rw [dif_pos (by decide), h]; rfl
  have w0 : scatter_S50x128_S1_S50x93_01_n_1_0.window k 0 = (k 0 : Nat) := rfl
  have w1 : scatter_S50x128_S1_S50x93_01_n_1_0.window k 1 = (k 1 : Nat) := rfl
  rw [resultIdx?_ix2, s0, s1, w0, w1]
  omega

/-- Where the element `q` of the bias is written. -/
theorem bias_place (idx : IVec S2 32) (h : ∀ i, idx i = 0#32) (k : S93.Idx) (r : Fin 1) (c : Fin 128) :
    scatter_S1x128_S2_S93_0_0_01_0.resultIdx? k idx = some (ix2 r c) ↔ (k 0 : Nat) = c := by
  have s0 : scatter_S1x128_S2_S93_0_0_01_0.start k idx 0 = 0 := by
    unfold ScatterDims.start
    rw [dif_pos (by decide), h]; rfl
  have s1 : scatter_S1x128_S2_S93_0_0_01_0.start k idx 1 = 0 := by
    unfold ScatterDims.start
    rw [dif_pos (by decide), h]; rfl
  have w0 : scatter_S1x128_S2_S93_0_0_01_0.window k 0 = 0 := rfl
  have w1 : scatter_S1x128_S2_S93_0_0_01_0.window k 1 = (k 0 : Nat) := rfl
  rw [resultIdx?_ix2, s0, s1, w0, w1]
  omega

/-- The padded weights in the first 93 columns. -/
theorem weights_at (w : FVec F S50x93 .f32) (r : Fin 50) (c : Fin 128) (q : Fin 93) (hq : q.val = c.val) :
    weights w (ix2 r c) = w (ix2 r q) := by
  have z : ∀ i, (broadcastInDim S1 ![] bcast_S_S1 (constantI S_ 32 0#32) : IVec S1 32) i = 0#32 := fun i => rfl
  refine scatter_set_hit _ _ _ w _ _ (fun k hk => ?_) (ix2 r q) ((weights_place _ z _ r c).2 ⟨rfl, hq⟩)
  have hk := (weights_place _ z k r c).1 hk
  refine congrArg w (funext fun a => Fin.ext ?_)
  match a with
  | ⟨0, _⟩ => exact hk.1
  | ⟨1, _⟩ => exact hk.2.trans hq.symm

/-- The two words of the bias's index vector are zero. -/
theorem bias_index (i : S2.Idx) : (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) i = 0#32 := by
  obtain ⟨a, rfl⟩ : ∃ a : Fin 2, i = ix1 a := ⟨i 0, funext fun b => by match b with | ⟨0, _⟩ => rfl⟩
  revert a
  decide

/-- The padded bias in the first 93 columns. -/
theorem bias_at (b : FVec F S93 .f32) (r : Fin 1) (c : Fin 128) (q : Fin 93) (hq : q.val = c.val) : bias b (ix2 r c) = b (ix1 q) := by
  refine scatter_set_hit _ _ _ b _ _ (fun k hk => ?_) (ix1 q) ((bias_place _ bias_index _ r c).2 hq)
  have hk := (bias_place _ bias_index k r c).1 hk
  refine congrArg b (funext fun a => Fin.ext ?_)
  match a with
  | ⟨0, _⟩ => exact hk.trans hq.symm

end Cert.KernelIdeal.Padded

end
-- ==== Proof.Region.lean ====
/- What the kernel's region computes, from whatever its three input arrays hold on entry.

   The grid has 100 points. At each, the body multiplies a block of 1000 rows of the layers' result by the whole padded
   weights, adds the padded bias row, and stores the 1000 rows of the product. `product` is that map on whole arrays;
   `final` says that the result array ends at `product` of the three arrays. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen

variable (m : (ℓ : Loc nD τ sig) → Buf (Elt Ideal) ℓ)

/-- Each row of `h` times `w`, plus the row `b`. -/
def product (h : FVec Ideal S100000x50 .f32) (w : FVec Ideal S50x128 .f32) (b : FVec Ideal S1x128 .f32) : FVec Ideal S100000x128 .f32 :=
  fun i => (∑ k : Fin 50, h (ix2 (i 0) k) * w (ix2 k (i 1))) + b (ix2 0 (i 1))

/-- Which block each window takes at each grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What point `t` stores at an index of its block is the product at that index's place in the array, whatever the arrays hold. -/
theorem point (h : FVec Ideal S100000x50 .f32) (w : FVec Ideal S50x128 .f32) (b : FVec Ideal S1x128 .f32) (t : Fin cfg0.N) (y) :
    k0_pay1 (F := Ideal) (((cfg0.win 0).blk t).view.read (Elt Ideal) h) (((cfg0.win 1).blk t).view.read (Elt Ideal) w)
      (((cfg0.win 2).blk t).view.read (Elt Ideal) b) y
    = product h w b (((cfg0.win 3).blk t).view.emb y) := by
  pointwise [k0_pay1, product]
  blk_point [idx t]

/-- The result array after the region. -/
theorem final (c : Dev nD) : (dats m 0 c).arrAt 3 cfg0.N
    = product (V m c main_v237) (V m c main_v240) (V m c main_v245) := by
  refine (dats m 0 c).arrAt_eq_of_covers 3 _ (by decide +kernel) fun t _ y => ?_
  blk_simp
  rw [after0_3]
  frame_out
  exact point (V m c main_v237) (V m c main_v240) (V m c main_v245) t y

end Cert.KernelIdeal.Region

end
-- ==== Proof.Tails.lean ====
/- What the two programs do after the layers, and that it is the same.

   The kernel pads the weights and the bias to 128 columns, multiplies in its region, and cuts the 93 columns from the
   result; the reference multiplies and adds the bias. `tails_agree` shows that from valuations that agree on the layers'
   result, the weights and the bias, both end with the same 93 columns. -/
module

public import proofs.«01_k».proof.Proof.Prefix
public import proofs.«01_k».proof.Proof.Padded
public import proofs.«01_k».proof.Proof.Region

@[expose] public section

set_option maxRecDepth 16384

noncomputable section

namespace Cert.Tails

open Idealize.ShloMosaic Idealize.ShloMosaic.TcCoe Idealize.ShloMosaic.StableHlo Cert.Mirror Cert.Prefix

/-! ## The kernel's padding -/

section Kernel

open Cert.KernelIdeal Cert.KernelIdeal.Gen

variable {F : FTy → Type} [FloatOps F] (W : Valuation τ sig (Elt F))

/-- The kernel's host operations after the layers and before the region. -/
abbrev padding : List (HloOp τ sig (Elt F)) := hostOps0_36.drop 1

/-- They leave the layers' result as it was. -/
theorem padding_layers : after padding W (Proc.devRef .tc main_v237) = W (Proc.devRef .tc main_v237) := by
  simp only [padding, List.drop]
  after_results

/-- They leave the weights, padded with columns of zeros, where the region reads them. -/
theorem padding_weights : after padding W (Proc.devRef .tc main_v240) = Padded.weights (W (Proc.devRef .tc main_arg14)) := by
  simp only [padding, List.drop]
  after_results
  rfl

/-- They leave the bias, padded with zeros to one row of 128, where the region reads it. -/
theorem padding_bias : after padding W (Proc.devRef .tc main_v245) = Padded.bias (W (Proc.devRef .tc main_arg15)) := by
  simp only [padding, List.drop]
  after_results
  rfl

end Kernel

/-! ## The reference's product -/

section Reference

open Cert.ReferenceIdeal Cert.ReferenceIdeal.Gen

variable {F : FTy → Type} [FloatOps F] (W : Valuation τ sig (Elt F))

/-- The product of the layers' result by the weights, plus the bias. -/
def product (h : FVec F S100000x50 .f32) (w : FVec F S50x93 .f32) (b : FVec F S93 .f32) : FVec F S100000x93 .f32 :=
  addf (Host.dotGeneral dot_S100000x50_S50x93_S100000x93_1_0_0_1_n_n none h w)
    (broadcastInDim S100000x93 ![0, 1] bcast_S1x93_S100000x93_0_1 (broadcastInDim S1x93 ![1] bcast_S93_S1x93_1 b))

/-- The reference's operations after the layers. -/
abbrev finish : List (HloOp τ sig (Elt F)) :=
  [ binary main_v237 main_arg14 main_v238 ((fun l r => Host.dotGeneral dot_S100000x50_S50x93_S100000x93_1_0_0_1_n_n none l r) : (⟨S100000x50, .f32⟩ : BufTy).Contents (Elt F) → (⟨S50x93, .f32⟩ : BufTy).Contents (Elt F) → (⟨S100000x93, .f32⟩ : BufTy).Contents (Elt F)),
    unary main_arg15 main_v239 (broadcastInDim S1x93 ![1] bcast_S93_S1x93_1 : (⟨S93, .f32⟩ : BufTy).Contents (Elt F) → (⟨S1x93, .f32⟩ : BufTy).Contents (Elt F)),
    unary main_v239 main_v240 (broadcastInDim S100000x93 ![0, 1] bcast_S1x93_S100000x93_0_1 : (⟨S1x93, .f32⟩ : BufTy).Contents (Elt F) → (⟨S100000x93, .f32⟩ : BufTy).Contents (Elt F)),
    binary main_v238 main_v240 main_v241 (addf : (⟨S100000x93, .f32⟩ : BufTy).Contents (Elt F) → (⟨S100000x93, .f32⟩ : BufTy).Contents (Elt F) → (⟨S100000x93, .f32⟩ : BufTy).Contents (Elt F)) ]

/-- These are what is left of its operations after the 403 of the layers. -/
theorem finish_eq : (referenceOps (F := F)).drop 403 = finish := rfl

/-- They leave in the result array the product of the layers' result by the weights, plus the bias. -/
theorem finish_result : after finish W (Proc.devRef .tc main_v241)
    = product (W (Proc.devRef .tc main_v237)) (W (Proc.devRef .tc main_arg14)) (W (Proc.devRef .tc main_arg15)) := by
  simp only [finish]
  after_results
  rfl

end Reference

/-! ## The two agree -/

/-- The kernel's product of the padded arrays, in the first 93 columns, is the reference's. -/
theorem products_agree (h : FVec Ideal KernelIdeal.S100000x50 .f32) (w : FVec Ideal KernelIdeal.S50x93 .f32) (b : FVec Ideal KernelIdeal.S93 .f32) :
    extractStridedSlice KernelIdeal.S100000x93 ![0, 0] (KernelIdeal.Region.product h (KernelIdeal.Padded.weights w) (KernelIdeal.Padded.bias b))
      KernelIdeal.Gen.slices_S100000x128_S100000x93_0_0 = product h w b := by
  funext j
  idx_vars j
  pointwise [KernelIdeal.Region.product, product]
  exact congrArg₂ _ (Finset.sum_congr rfl fun x _ => congrArg _ (KernelIdeal.Padded.weights_at w x _ j1 rfl))
    (KernelIdeal.Padded.bias_at b 0 _ j1 rfl)

/-- So from valuations that agree after the layers, the 93 columns cut from the kernel's product are the reference's result. -/
theorem tails_agree {W : Valuation KernelIdeal.τ KernelIdeal.sig (Elt Ideal)} {W' : Valuation ReferenceIdeal.τ ReferenceIdeal.sig (Elt Ideal)}
    (h : Agree 419 W W') :
    extractStridedSlice KernelIdeal.S100000x93 ![0, 0]
        (KernelIdeal.Region.product (after padding W (Proc.devRef .tc KernelIdeal.main_v237))
          (after padding W (Proc.devRef .tc KernelIdeal.main_v240)) (after padding W (Proc.devRef .tc KernelIdeal.main_v245)))
        KernelIdeal.Gen.slices_S100000x128_S100000x93_0_0
      = after ((referenceOps (F := Ideal)).drop 403) W' (Proc.devRef .tc ReferenceIdeal.main_v241) := by
  have e0 := eq_of_heq (h KernelIdeal.main_v237 ReferenceIdeal.main_v237 ⟨rfl, rfl, rfl, by decide⟩)
  have e1 := eq_of_heq (h KernelIdeal.main_arg14 ReferenceIdeal.main_arg14 ⟨rfl, rfl, rfl, by decide⟩)
  have e2 := eq_of_heq (h KernelIdeal.main_arg15 ReferenceIdeal.main_arg15 ⟨rfl, rfl, rfl, by decide⟩)
  rw [finish_eq, finish_result, ← e0, ← e1, ← e2, padding_layers, padding_weights, padding_bias]
  exact products_agree _ _ _

end Cert.Tails

end
-- ==== Proof.Value.lean ====
/- The two programs' runs, read: the kernel's result array and the reference's, and that they are equal.

   `kernel_run` and `reference_run` say what the two result arrays end at, as the host operations leave them; `results_agree`
   joins the layers (`Prefix.lean`) and what follows them (`Tails.lean`). -/
module

public import proofs.«01_k».proof.Proof.Tails
public import Idealize.ShloMosaic.Lib.Quiescent

@[expose] public section

set_option maxRecDepth 16384

noncomputable section

namespace Cert.Value

open Idealize.ShloMosaic Idealize.ShloMosaic.TcCoe Idealize.ShloMosaic.StableHlo Idealize.SL.Sem Cert.Mirror Cert.Prefix

section Kernel

open Cert.KernelIdeal Cert.KernelIdeal.Gen

variable (m : (ℓ : Loc nD τ sig) → Buf (Elt Ideal) ℓ) (ρ : Dev nD → PrngReg)

/-- What the kernel's result array ends at. -/
def kernelResult (c : Dev nD) : FVec Ideal S100000x93 .f32 :=
  extractStridedSlice S100000x93 ![0, 0] (Region.product (V m c main_v237) (V m c main_v240) (V m c main_v245))
    slices_S100000x128_S100000x93_0_0

/-- The columns cut after the region are those of the region's result array. -/
theorem cut (c : Dev nD) (W : Valuation τ sig (Elt Ideal)) (X : FVec Ideal S100000x128 .f32) (h : W (Proc.devRef .tc main_v246) = X) :
    after hostOps1 W (Proc.devRef .tc main_v247) = extractStridedSlice S100000x93 ![0, 0] X slices_S100000x128_S100000x93_0_0 := by
  subst h
  simp only [hostOps1]
  after_results

/-- After the region and the cut that follows it, the result array holds `kernelResult`. -/
theorem tail_result (c : Dev nD) : Pipeline.afterTail₀ cfgs (dats m) 0 (V0 m) [hostOps1] c main_v247 = kernelResult m c := by
  have e : Pipeline.withArrays spec0 c (V0 m c) (fun w => (dats m 0 c).arrAt w cfg0.N) (Proc.devRef .tc main_v246)
      = Region.product (V m c main_v237) (V m c main_v240) (V m c main_v245) :=
    (Pipeline.withArrays_arr spec0 launch0.win.arr_inj c (V0 m c) (fun w => (dats m 0 c).arrAt w cfg0.N) 3).trans (Region.final m c)
  exact cut c _ _ e

/-- Every run of the kernel ends with `kernelResult` in its result array. -/
theorem kernel_run : θ_run defs (onTc (τ := τ) (main (F := Ideal))) ⟨m, fun _ => 0, ρ⟩ fun r => ∀ c : Dev nD,
    r.2.mem ((c.tc : Thread nD τ).loc main_v247) = kernelResult m c :=
  (θ_run defs _ _).mono
    (fun _ h c => ((h c).2 main_v247 (Pipeline.mem_restRefs_of main_v247 (by decide) (by decide))).trans (tail_result m c))
    (run_main m ρ)

end Kernel

section Reference

open Cert.ReferenceIdeal

variable {F : FTy → Type} [FloatOps F] (m : (ℓ : Loc nD τ sig) → Buf (Elt F) ℓ) (ρ : Dev nD → PrngReg)

/-- Every run of the reference ends with its result array as its operations, in order, leave it. -/
theorem reference_run : θ_run defs (onTc (τ := τ) (main (F := F))) ⟨m, fun _ => 0, ρ⟩ fun r => ∀ c : Dev nD,
    r.2.mem ((c.tc : Thread nD τ).loc main_v241) = after (referenceOps (F := F)) (launchContents m c) (Proc.devRef .tc main_v241) :=
  (θ_run defs _ _).mono (fun _ h c => h c main_v241)
    (run_seq Value.scopedRefs_eq Value.scopedSems_eq defs main (fun _ => Value.ops) Value.main_eq (fun _ => Value.ops_sub) m ρ
      fun _ => Value.ops_fresh)

end Reference

/-- Memories equal at the sixteen arguments give launch contents that agree below index 16. -/
theorem args_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h :
      m' ((c.tc : Thread ReferenceIdeal.nD ReferenceIdeal.τ).loc ReferenceIdeal.main_arg0) = m ((c.tc : Thread KernelIdeal.nD KernelIdeal.τ).loc KernelIdeal.main_arg0) ∧
      m' ((c.tc : Thread ReferenceIdeal.nD ReferenceIdeal.τ).loc ReferenceIdeal.main_arg1) = m ((c.tc : Thread KernelIdeal.nD KernelIdeal.τ).loc KernelIdeal.main_arg1) ∧
      m' ((c.tc : Thread ReferenceIdeal.nD ReferenceIdeal.τ).loc ReferenceIdeal.main_arg2) = m ((c.tc : Thread KernelIdeal.nD KernelIdeal.τ).loc KernelIdeal.main_arg2) ∧
      m' ((c.tc : Thread ReferenceIdeal.nD ReferenceIdeal.τ).loc ReferenceIdeal.main_arg3) = m ((c.tc : Thread KernelIdeal.nD KernelIdeal.τ).loc KernelIdeal.main_arg3) ∧
      m' ((c.tc : Thread ReferenceIdeal.nD ReferenceIdeal.τ).loc ReferenceIdeal.main_arg4) = m ((c.tc : Thread KernelIdeal.nD KernelIdeal.τ).loc KernelIdeal.main_arg4) ∧
      m' ((c.tc : Thread ReferenceIdeal.nD ReferenceIdeal.τ).loc ReferenceIdeal.main_arg5) = m ((c.tc : Thread KernelIdeal.nD KernelIdeal.τ).loc KernelIdeal.main_arg5) ∧
      m' ((c.tc : Thread ReferenceIdeal.nD ReferenceIdeal.τ).loc ReferenceIdeal.main_arg6) = m ((c.tc : Thread KernelIdeal.nD KernelIdeal.τ).loc KernelIdeal.main_arg6) ∧
      m' ((c.tc : Thread ReferenceIdeal.nD ReferenceIdeal.τ).loc ReferenceIdeal.main_arg7) = m ((c.tc : Thread KernelIdeal.nD KernelIdeal.τ).loc KernelIdeal.main_arg7) ∧
      m' ((c.tc : Thread ReferenceIdeal.nD ReferenceIdeal.τ).loc ReferenceIdeal.main_arg8) = m ((c.tc : Thread KernelIdeal.nD KernelIdeal.τ).loc KernelIdeal.main_arg8) ∧
      m' ((c.tc : Thread ReferenceIdeal.nD ReferenceIdeal.τ).loc ReferenceIdeal.main_arg9) = m ((c.tc : Thread KernelIdeal.nD KernelIdeal.τ).loc KernelIdeal.main_arg9) ∧
      m' ((c.tc : Thread ReferenceIdeal.nD ReferenceIdeal.τ).loc ReferenceIdeal.main_arg10) = m ((c.tc : Thread KernelIdeal.nD KernelIdeal.τ).loc KernelIdeal.main_arg10) ∧
      m' ((c.tc : Thread ReferenceIdeal.nD ReferenceIdeal.τ).loc ReferenceIdeal.main_arg11) = m ((c.tc : Thread KernelIdeal.nD KernelIdeal.τ).loc KernelIdeal.main_arg11) ∧
      m' ((c.tc : Thread ReferenceIdeal.nD ReferenceIdeal.τ).loc ReferenceIdeal.main_arg12) = m ((c.tc : Thread KernelIdeal.nD KernelIdeal.τ).loc KernelIdeal.main_arg12) ∧
      m' ((c.tc : Thread ReferenceIdeal.nD ReferenceIdeal.τ).loc ReferenceIdeal.main_arg13) = m ((c.tc : Thread KernelIdeal.nD KernelIdeal.τ).loc KernelIdeal.main_arg13) ∧
      m' ((c.tc : Thread ReferenceIdeal.nD ReferenceIdeal.τ).loc ReferenceIdeal.main_arg14) = m ((c.tc : Thread KernelIdeal.nD KernelIdeal.τ).loc KernelIdeal.main_arg14) ∧
      m' ((c.tc : Thread ReferenceIdeal.nD ReferenceIdeal.τ).loc ReferenceIdeal.main_arg15) = m ((c.tc : Thread KernelIdeal.nD KernelIdeal.τ).loc KernelIdeal.main_arg15)) : Agree 16 (launchContents m c) (launchContents m' c) := by
  have a0 := agree_zero (launchContents m c) (launchContents m' c)
  have a1 := a0.step (y := KernelIdeal.main_arg0) (y' := ReferenceIdeal.main_arg0) ⟨rfl, rfl, rfl, rfl⟩ (heq_of_eq h.1.symm)
  have a2 := a1.step (y := KernelIdeal.main_arg1) (y' := ReferenceIdeal.main_arg1) ⟨rfl, rfl, rfl, rfl⟩ (heq_of_eq h.2.1.symm)
  have a3 := a2.step (y := KernelIdeal.main_arg2) (y' := ReferenceIdeal.main_arg2) ⟨rfl, rfl, rfl, rfl⟩ (heq_of_eq h.2.2.1.symm)
  have a4 := a3.step (y := KernelIdeal.main_arg3) (y' := ReferenceIdeal.main_arg3) ⟨rfl, rfl, rfl, rfl⟩ (heq_of_eq h.2.2.2.1.symm)
  have a5 := a4.step (y := KernelIdeal.main_arg4) (y' := ReferenceIdeal.main_arg4) ⟨rfl, rfl, rfl, rfl⟩ (heq_of_eq h.2.2.2.2.1.symm)
  have a6 := a5.step (y := KernelIdeal.main_arg5) (y' := ReferenceIdeal.main_arg5) ⟨rfl, rfl, rfl, rfl⟩ (heq_of_eq h.2.2.2.2.2.1.symm)
  have a7 := a6.step (y := KernelIdeal.main_arg6) (y' := ReferenceIdeal.main_arg6) ⟨rfl, rfl, rfl, rfl⟩ (heq_of_eq h.2.2.2.2.2.2.1.symm)
  have a8 := a7.step (y := KernelIdeal.main_arg7) (y' := ReferenceIdeal.main_arg7) ⟨rfl, rfl, rfl, rfl⟩ (heq_of_eq h.2.2.2.2.2.2.2.1.symm)
  have a9 := a8.step (y := KernelIdeal.main_arg8) (y' := ReferenceIdeal.main_arg8) ⟨rfl, rfl, rfl, rfl⟩ (heq_of_eq h.2.2.2.2.2.2.2.2.1.symm)
  have a10 := a9.step (y := KernelIdeal.main_arg9) (y' := ReferenceIdeal.main_arg9) ⟨rfl, rfl, rfl, rfl⟩ (heq_of_eq h.2.2.2.2.2.2.2.2.2.1.symm)
  have a11 := a10.step (y := KernelIdeal.main_arg10) (y' := ReferenceIdeal.main_arg10) ⟨rfl, rfl, rfl, rfl⟩ (heq_of_eq h.2.2.2.2.2.2.2.2.2.2.1.symm)
  have a12 := a11.step (y := KernelIdeal.main_arg11) (y' := ReferenceIdeal.main_arg11) ⟨rfl, rfl, rfl, rfl⟩ (heq_of_eq h.2.2.2.2.2.2.2.2.2.2.2.1.symm)
  have a13 := a12.step (y := KernelIdeal.main_arg12) (y' := ReferenceIdeal.main_arg12) ⟨rfl, rfl, rfl, rfl⟩ (heq_of_eq h.2.2.2.2.2.2.2.2.2.2.2.2.1.symm)
  have a14 := a13.step (y := KernelIdeal.main_arg13) (y' := ReferenceIdeal.main_arg13) ⟨rfl, rfl, rfl, rfl⟩ (heq_of_eq h.2.2.2.2.2.2.2.2.2.2.2.2.2.1.symm)
  have a15 := a14.step (y := KernelIdeal.main_arg14) (y' := ReferenceIdeal.main_arg14) ⟨rfl, rfl, rfl, rfl⟩ (heq_of_eq h.2.2.2.2.2.2.2.2.2.2.2.2.2.2.1.symm)
  have a16 := a15.step (y := KernelIdeal.main_arg15) (y' := ReferenceIdeal.main_arg15) ⟨rfl, rfl, rfl, rfl⟩ (heq_of_eq h.2.2.2.2.2.2.2.2.2.2.2.2.2.2.2.symm)
  exact a16

/-- The two programs' results are equal wherever their launch contents agree on the arguments. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Agree 16 (launchContents m c) (launchContents m' c)) :
    kernelResult m c = after (referenceOps (F := Ideal)) (launchContents m' c) (Proc.devRef .tc ReferenceIdeal.main_v241) := by
  have e : KernelIdeal.Gen.V0 m c = after Tails.padding (after ((kernelOps (F := Ideal)).take 403) (launchContents m c)) :=
    kernel_split (launchContents m c)
  rw [reference_split]
  unfold kernelResult KernelIdeal.Gen.V
  rw [e]
  exact Tails.tails_agree (layers_agree h)

end Cert.Value

end
-- ==== Proof.lean ====
/- The proof of the five claims: each of the kernel, its idealization and the reference runs and ends quiescent with its
   arguments unchanged; the idealization is the kernel's own text; and at the extended reals the kernel's result is the
   reference's. The first four come from the generated runs; the fifth from `Proof/Value.lean`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Value
public import Idealize.ShloMosaic.Adequacy
public import Idealize.ShloMosaic.Init

@[expose] public section

set_option maxRecDepth 16384

noncomputable section

namespace Cert.Proof

open Idealize.ShloMosaic Idealize.ShloMosaic.StableHlo Idealize.SL.Sem Cert.Mirror

/-- The reference ends with its arguments unchanged; it has no semaphore, so none is left raised. -/
theorem reference_frame : quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- From equal arguments the idealized kernel and the reference end with equal results, over the extended reals. -/
theorem algebraic : algebraic_KernelIdeal_ReferenceIdeal (hKernelIdeal := KernelIdeal.Gen.facts) (hReferenceIdeal := ReferenceIdeal.Gen.facts) := by
  intro m g m' g' _ hagree
  refine ⟨Value.kernelResult m, ?_, ?_⟩
  · exact (θ_run _ _ _).mono (fun r h c => ⟨h.1 c, h.2 c⟩) (θ_run_and (Value.kernel_run m g) (KernelIdeal.Gen.unchanged m g))
  · have hr : ∀ c, Value.kernelResult m c = _ := fun c => Value.results_agree m m' c (Value.args_agree m m' c (hagree c))
    exact (θ_run _ _ _).mono (fun r h c => ⟨(h.1 c).trans (hr c).symm, (h.2 c).2⟩)
      (θ_run_and (Value.reference_run m' g') (ReferenceIdeal.Value.run m' g'))

/-- The five claims together. -/
theorem claim : Cert.Claim := ⟨Kernel.Gen.facts, KernelIdeal.Gen.facts, ReferenceIdeal.Gen.facts,
  fun m g _ => Kernel.Gen.frame m g, fun m g _ => KernelIdeal.Gen.frame m g,
  reference_frame, trivial, algebraic⟩

end Cert.Proof

end
